-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![512, 512]⟩ ⟨2, ![1024, 512]⟩ (Layout.meshBlock [2, 4, 4] ![[0], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.blockN ⟨2, ![512, 512]⟩ ⟨2, ![1024, 512]⟩ (Layout.meshBlock [2, 4, 4] ![[0], []] c) (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)) →
    ∃ (v0 : Buf (Elt Ideal) (((0 : Dev Cert.ReferenceIdeal.nD).tc : Thread Cert.ReferenceIdeal.nD Cert.ReferenceIdeal.τ).loc Cert.ReferenceIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v19) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S512x512 : Shape := ⟨2, ![512, 512]⟩
abbrev S512 : Shape := ⟨1, ![512]⟩
abbrev S2x512 : Shape := ⟨2, ![2, 512]⟩
abbrev S8 : Shape := ⟨1, ![8]⟩
abbrev S_ : Shape := ⟨0, ![]⟩
abbrev S1 : Shape := ⟨1, ![1]⟩
abbrev S128x512 : Shape := ⟨2, ![128, 512]⟩
abbrev S128 : Shape := ⟨1, ![128]⟩
abbrev S128x1 : Shape := ⟨2, ![128, 1]⟩
abbrev S1x512 : Shape := ⟨2, ![1, 512]⟩

abbrev nBuf : Space → Nat
  | .hbm => 4
  | .vmem => 5
  | .smem => 0
  | _ => 0

abbrev bufTy : (tb : Table) → Fin (tcTables nBuf tb) → BufTy
  | .hbm, ⟨0, _⟩ => ⟨S512x512, .f32⟩
  | .hbm, ⟨1, _⟩ => ⟨S512x512, .f32⟩
  | .hbm, ⟨2, _⟩ => ⟨S512, .f32⟩
  | .hbm, ⟨3, _⟩ => ⟨S2x512, .f32⟩
  | .local _ .vmem, ⟨0, _⟩ => ⟨S2x512, .f32⟩
  | .local _ .vmem, ⟨1, _⟩ => ⟨S512x512, .f32⟩
  | .local _ .vmem, ⟨2, _⟩ => ⟨S512x512, .f32⟩
  | .local _ .vmem, ⟨3, _⟩ => ⟨S2x512, .f32⟩
  | .local _ .vmem, ⟨4, _⟩ => ⟨S2x512, .f32⟩
  | _, _ => ⟨S512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  (ofTc nBuf bufTy 1 11 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1 : Ref sig .tc := ⟨.hbm, 3, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_scratch3 : Ref sig .tc := ⟨.vmem, 4, rfl⟩
abbrev cc0_sem0_0 : DmaSem sig := 0
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_4 : BitVec 32 := 16#32
  let v11 : BitVec 32 := Scalar.muli v9 c16_i32_4
  let v12 : BitVec 32 := Scalar.addi c0_i32 v11
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_5 : BitVec 32 := 4#32
  let v13 : BitVec 32 := Scalar.muli v5 c4_i32_5
  let v14 : BitVec 32 := Scalar.addi v12 v13
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_6 : BitVec 32 := 1#32
  let v15 : BitVec 32 := Scalar.muli v8 c1_i32_6
  let v16 : BitVec 32 := Scalar.addi v14 v15
  v16.toNat
def k0_dev2 (d0 : Dev nD) : Nat :=
  let c0_i32_124 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_123 : BitVec 32 := 16#32
  let v177 : BitVec 32 := Scalar.muli v9 c16_i32_123
  let v178 : BitVec 32 := Scalar.addi c0_i32_124 v177
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_125 : BitVec 32 := 4#32
  let v179 : BitVec 32 := Scalar.muli v5 c4_i32_125
  let v180 : BitVec 32 := Scalar.addi v178 v179
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_126 : BitVec 32 := 1#32
  let v181 : BitVec 32 := Scalar.muli v8 c1_i32_126
  let v182 : BitVec 32 := Scalar.addi v180 v181
  v182.toNat
abbrev stage0_0 : Fin 1 → Memref sig .tc .vmem S2x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S1024x512 : Shape := ⟨2, ![1024, 512]⟩
abbrev S512 : Shape := ⟨1, ![512]⟩
abbrev S_ : Shape := ⟨0, ![]⟩
abbrev S1024 : Shape := ⟨1, ![1024]⟩
abbrev S1024x1 : Shape := ⟨2, ![1024, 1]⟩
abbrev S1x512 : Shape := ⟨2, ![1, 512]⟩
abbrev S2x512 : Shape := ⟨2, ![2, 512]⟩

abbrev nBuf : Space → Nat
  | .hbm => 52
  | .vmem => 0
  | .smem => 0
  | _ => 0

abbrev bufTy : (tb : Table) → Fin (tcTables nBuf tb) → BufTy
  | .hbm, ⟨0, _⟩ => ⟨S1024x512, .f32⟩
  | .hbm, ⟨1, _⟩ => ⟨S1024x512, .f32⟩
  | .hbm, ⟨2, _⟩ => ⟨S512, .f32⟩
  | .hbm, ⟨3, _⟩ => ⟨S_, .f32⟩
  | .hbm, ⟨4, _⟩ => ⟨S1024, .f32⟩
  | .hbm, ⟨5, _⟩ => ⟨S1024x1, .f32⟩
  | .hbm, ⟨6, _⟩ => ⟨S_, .f32⟩
  | .hbm, ⟨7, _⟩ => ⟨S1024x1, .f32⟩
  | .hbm, ⟨8, _⟩ => ⟨S1024x1, .f32⟩
  | .hbm, ⟨9, _⟩ => ⟨S_, .i32⟩
  | .hbm, ⟨10, _⟩ => ⟨S_, .f32⟩
  | .hbm, ⟨11, _⟩ => ⟨S1024, .f32⟩
  | .hbm, ⟨12, _⟩ => ⟨S1024x1, .f32⟩
  | .hbm, ⟨13, _⟩ => ⟨S_, .f32⟩
  | .hbm, ⟨14, _⟩ => ⟨S1024x1, .f32⟩
  | .hbm, ⟨15, _⟩ => ⟨S1024x1, .f32⟩
  | .hbm, ⟨16, _⟩ => ⟨S1024x512, .f32⟩
  | .hbm, ⟨17, _⟩ => ⟨S1024x512, .f32⟩
  | .hbm, ⟨18, _⟩ => ⟨S1024x512, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S1024, .f32⟩
  | .hbm, ⟨24, _⟩ => ⟨S1024x1, .f32⟩
  | .hbm, ⟨25, _⟩ => ⟨S1024x1, .f32⟩
  | .hbm, ⟨26, _⟩ => ⟨S1024x1, .f32⟩
  | .hbm, ⟨27, _⟩ => ⟨S_, .f32⟩
  | .hbm, ⟨28, _⟩ => ⟨S_, .i1⟩
  | .hbm, ⟨29, _⟩ => ⟨S_, .f32⟩
  | .hbm, ⟨30, _⟩ => ⟨S_, .f32⟩
  | .hbm, ⟨31, _⟩ => ⟨S1024x1, .f32⟩
  | .hbm, ⟨32, _⟩ => ⟨S1024x1, .f32⟩
  | .hbm, ⟨33, _⟩ => ⟨S_, .f32⟩
  | .hbm, ⟨34, _⟩ => ⟨S1024x1, .f32⟩
  | .hbm, ⟨35, _⟩ => ⟨S1024x1, .f32⟩
  | .hbm, ⟨36, _⟩ => ⟨S1024x1, .f32⟩
  | .hbm, ⟨37, _⟩ => ⟨S_, .f32⟩
  | .hbm, ⟨38, _⟩ => ⟨S1024x1, .f32⟩
  | .hbm, ⟨39, _⟩ => ⟨S1024x1, .f32⟩
  | .hbm, ⟨40, _⟩ => ⟨S1024x512, .f32⟩
  | .hbm, ⟨41, _⟩ => ⟨S1024x512, .f32⟩
  | .hbm, ⟨42, _⟩ => ⟨S1024x512, .f32⟩
  | .hbm, ⟨43, _⟩ => ⟨S1024x512, .f32⟩
  | .hbm, ⟨44, _⟩ => ⟨S1024x512, .f32⟩
  | .hbm, ⟨45, _⟩ => ⟨S_, .f32⟩
  | .hbm, ⟨46, _⟩ => ⟨S512, .f32⟩
  | .hbm, ⟨47, _⟩ => ⟨S_, .f32⟩
  | .hbm, ⟨48, _⟩ => ⟨S512, .f32⟩
  | .hbm, ⟨49, _⟩ => ⟨S1x512, .f32⟩
  | .hbm, ⟨50, _⟩ => ⟨S1x512, .f32⟩
  | .hbm, ⟨51, _⟩ => ⟨S2x512, .f32⟩
  | _, _ => ⟨S1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_call0_cst : Ref sig .tc := ⟨.hbm, 10, rfl⟩
abbrev main_call0_v0 : Ref sig .tc := ⟨.hbm, 11, rfl⟩
abbrev main_call0_v1 : Ref sig .tc := ⟨.hbm, 12, rfl⟩
abbrev main_call0_cst_0 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_v6 : Ref sig .tc := ⟨.hbm, 18, rfl⟩
abbrev main_call0_v7 : Ref sig .tc := ⟨.hbm, 19, rfl⟩
abbrev main_call0_cst_1 : Ref sig .tc := ⟨.hbm, 20, rfl⟩
abbrev main_call0_v8 : Ref sig .tc := ⟨.hbm, 21, rfl⟩
abbrev main_call0_cst_2 : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_v12 : Ref sig .tc := ⟨.hbm, 26, rfl⟩
abbrev main_call0_cst_3 : Ref sig .tc := ⟨.hbm, 27, rfl⟩
abbrev main_call0_v13 : Ref sig .tc := ⟨.hbm, 28, rfl⟩
abbrev main_call0_cst_4 : Ref sig .tc := ⟨.hbm, 29, rfl⟩
abbrev main_call0_call0_v0 : Ref sig .tc := ⟨.hbm, 30, rfl⟩
abbrev main_call0_call0_v1 : Ref sig .tc := ⟨.hbm, 31, rfl⟩
abbrev main_v4 : Ref sig .tc := ⟨.hbm, 32, rfl⟩
abbrev main_cst_1 : Ref sig .tc := ⟨.hbm, 33, rfl⟩
abbrev main_v5 : Ref sig .tc := ⟨.hbm, 34, rfl⟩
abbrev main_v6 : Ref sig .tc := ⟨.hbm, 35, rfl⟩
abbrev main_v7 : Ref sig .tc := ⟨.hbm, 36, rfl⟩
abbrev main_cst_2 : Ref sig .tc := ⟨.hbm, 37, rfl⟩
abbrev main_v8 : Ref sig .tc := ⟨.hbm, 38, rfl⟩
abbrev main_v9 : Ref sig .tc := ⟨.hbm, 39, rfl⟩
abbrev main_v10 : Ref sig .tc := ⟨.hbm, 40, rfl⟩
abbrev main_v11 : Ref sig .tc := ⟨.hbm, 41, rfl⟩
abbrev main_v12 : Ref sig .tc := ⟨.hbm, 42, rfl⟩
abbrev main_v13 : Ref sig .tc := ⟨.hbm, 43, rfl⟩
abbrev main_v14 : Ref sig .tc := ⟨.hbm, 44, rfl⟩
abbrev main_cst_3 : Ref sig .tc := ⟨.hbm, 45, rfl⟩
abbrev main_v15 : Ref sig .tc := ⟨.hbm, 46, rfl⟩
abbrev main_cst_4 : Ref sig .tc := ⟨.hbm, 47, rfl⟩
abbrev main_v16 : Ref sig .tc := ⟨.hbm, 48, rfl⟩
abbrev main_v17 : Ref sig .tc := ⟨.hbm, 49, rfl⟩
abbrev main_v18 : Ref sig .tc := ⟨.hbm, 50, rfl⟩
abbrev main_v19 : Ref sig .tc := ⟨.hbm, 51, rfl⟩

abbrev nD : Nat := 1
abbrev τ : Topo := Topo.v7x

variable {F : FTy → Type} [FloatOps F]
-- ==== Proof.Protocol.lean ====
/-
The exchange between the two devices of a pair, stated as a schedule of rounds.

Device `c` and its partner (the device of the other `x` coordinate and the same `y`, `z`) each compute a 2×512
partial result from their own rows, tell each other on the barrier semaphore that their landing buffer is free, copy
their partial result into the partner's landing buffer, and add the two.

Three cells per device carry the exchange: the barrier cell (one unit, from the partner), the send cell (the copy's
amount, from the device's own copy) and the receive cell (the copy's amount, from the partner's copy). Each cell has
one round with one duty. What a duty hands over:

* barrier: the partner's landing buffer at some contents, and that the partner is at round 0 of its receive cell;
* send: the device's own partial buffer back, holding its partial result;
* receive: the device's own landing buffer, holding the partner's partial result.

The run is stated over any float values `F`.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Pipeline.FrameBody
public import Idealize.ShloMosaic.Lib.Ring
public import Idealize.ShloMosaic.Lib.ValueIdxCore
public import Idealize.ShloMosaic.Lib.Tactic

@[expose] public section

noncomputable section

namespace Cert.KernelIdeal.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation cellOf)

variable {F : FTy → Type} [FloatOps F]

/-! ## The resources -/

/-- The exchange's rounds: cells named by semaphore, duties by the one-element type. -/
abbrev XR : Type := URounds (GSem nD τ sig) Unit
/-- The staging pipeline's rounds, the exchange's, and the local copies' counters. -/
abbrev UX : Type := UR sig nD τ × (XR × Counters)

local notation "𝕄" => MT nD τ sig Unit (Elt F) ℕ UX ℕ

/-- Where the staging pipeline's rounds live. -/
abbrev EPipe : Emb (UR sig nD τ) (MT nD τ sig Unit (Elt F) ℕ UX ℕ) := embL
/-- Where the exchange's rounds live. -/
abbrev EX : Emb XR (MT nD τ sig Unit (Elt F) ℕ UX ℕ) := (Emb.inl : Emb XR (XR × Counters)).trans embR

variable (m : (ℓ : Loc nD τ sig) → Buf (Elt F) ℓ) (ρ : Dev nD → PrngReg)

/-! ## The pairs -/

set_option backward.proofsInPublic true in
/-- The device on the other side of the `x` axis. -/
def peer (c : Dev nD) : Dev nD := ⟨(c.val + 16) % 32, Nat.mod_lt _ (by decide)⟩

/-- The partner's partner is the device. -/
theorem peer_peer (c : Dev nD) : peer (peer c) = c := by revert c; decide

/-- Swapping the sides of every pair. -/
def swap : Dev nD ≃ Dev nD := ⟨peer, peer, peer_peer, peer_peer⟩

/-- The device the barrier signal names is the partner. -/
theorem dev1_peer (c : Dev nD) : (⟨k0_dev1 c, k0_dev1_lt c⟩ : Dev nD) = peer c :=
  Fin.ext ((k0_dev1_eq c).trans (by revert c; decide))
/-- The device the copy names is the partner. -/
theorem dev2_peer (c : Dev nD) : (⟨k0_dev2 c, k0_dev2_lt c⟩ : Dev nD) = peer c :=
  Fin.ext ((k0_dev2_eq c).trans (by revert c; decide))

/-! ## Buffers and cells -/

/-- The partial buffer and the landing buffer. -/
abbrev partM : Memref sig .tc .vmem S2x512 .f32 := Memref.whole cc0_scratch2
abbrev landM : Memref sig .tc .vmem S2x512 .f32 := Memref.whole cc0_scratch3

/-- The barrier semaphore, the copy's send semaphore and its receive semaphore. -/
abbrev barS : Sem sig := (SemArray.scalar (sig.barrier 0 rfl) : Sems sig S_).sem
abbrev sendS : DmaSem sig := (cc0_scratch5 : DmaSems sig S_).sem
abbrev recvS : DmaSem sig := (cc0_scratch6 : DmaSems sig S_).sem

abbrev barCell (c : Dev nD) : GSem nD τ sig := ((c : Thread nD τ), .reg barS)
abbrev sendCell (c : Dev nD) : GSem nD τ sig := ((c : Thread nD τ), .dma sendS)
abbrev recvCell (c : Dev nD) : GSem nD τ sig := ((c : Thread nD τ), .dma recvS)

/-- The three cells of the exchange on a device. -/
abbrev xsem : Fin 3 → SemLoc sig := fun | 0 => .reg barS | 1 => .dma sendS | 2 => .dma recvS
abbrev xcell (ck : Dev nD × Fin 3) : GSem nD τ sig := ((ck.1 : Thread nD τ), xsem ck.2)

/-- The copy's amount. -/
abbrev amt : ℕ := (landM : Memref sig .tc .vmem S2x512 .f32).view.dmaCredit
theorem amt_pos : 0 < amt := View.dmaCredit_pos _ (by decide)

/-! ## Contents -/

/-- The arrays a device starts from. -/
abbrev xAt (c : Dev nD) : (main_arg0 : Ref sig .tc).ty.Contents (Elt F) := m ((c : Thread nD τ).loc main_arg0)
abbrev dyAt (c : Dev nD) : (main_arg1 : Ref sig .tc).ty.Contents (Elt F) := m ((c : Thread nD τ).loc main_arg1)

/-- Rows `128 k` to `128 k + 127` of a 512×512 array. -/
def rows (k : Fin 4) (A : FVec F S512x512 .f32) : FVec F S128x512 .f32 :=
  fun i => A (ix2 (⟨128 * k.val + (i 0).val, by have := idx2_lt0 i; have := k.isLt; omega⟩ : Fin 512) (i 1))

/-- The first row of a device's partial result: the sums over its rows of `dy` times the normalized `x`. -/
def gRow (X D : FVec F S512x512 .f32) : FVec F S1x512 .f32 :=
  k0_pay9 (k0_pay6 (k0_pay4 (k0_pay2 (rows 0 X) (rows 0 D)) (rows 1 X) (rows 1 D)) (rows 2 X) (rows 2 D)) (rows 3 X) (rows 3 D) (k0_pay8 (rows 3 X))

/-- The second row: the sums over its rows of `dy`. -/
def bRow (D : FVec F S512x512 .f32) : FVec F S1x512 .f32 :=
  k0_pay10 (k0_pay7 (k0_pay5 (k0_pay3 (rows 0 D)) (rows 1 D)) (rows 2 D)) (rows 3 D)

/-- A device's partial result: the two rows. -/
def partVal (X D : FVec F S512x512 .f32) : FVec F S2x512 .f32 :=
  fun i => if (i 0).val = 0 then gRow X D (ix2 (0 : Fin 1) (i 1)) else bRow D (ix2 (0 : Fin 1) (i 1))

/-- Device `c`'s partial result, as the contents of its partial buffer. -/
def part (c : Dev nD) : (cc0_scratch2 : Ref sig .tc).ty.Contents (Elt F) := partVal (xAt m c) (dyAt m c)
/-- What lands in device `c`'s landing buffer: the partner's partial result. -/
def landed (c : Dev nD) : (cc0_scratch3 : Ref sig .tc).ty.Contents (Elt F) := partVal (xAt m (peer c)) (dyAt m (peer c))
/-- Device `c`'s result: its partial result plus the partner's. -/
def outVal (c : Dev nD) : (cc0_stg0_0 : Ref sig .tc).ty.Contents (Elt F) :=
  k0_pay1 (partVal (xAt m c) (dyAt m c)) (partVal (xAt m (peer c)) (dyAt m (peer c)))

/-- Device `c`'s partial buffer and landing buffer, each held whole at given contents. -/
def partPts (c : Dev nD) (f : Buf (Elt F) ((c : Thread nD τ).loc cc0_scratch2)) : sProp 𝕄 :=
  partM.view.loc (c : Thread nD τ) ↦[partM.view.set]{fullShare} f
def landPts (c : Dev nD) (f : Buf (Elt F) ((c : Thread nD τ).loc cc0_scratch3)) : sProp 𝕄 :=
  landM.view.loc (c : Thread nD τ) ↦[landM.view.set]{fullShare} f

omit [FloatOps F] in
instance partPts_storable (c : Dev nD) (f) : BI.Storable (upEmb : UEmb _ 𝕄) (partPts (F := F) c f) := by unfold partPts; infer_instance
omit [FloatOps F] in
instance landPts_storable (c : Dev nD) (f) : BI.Storable (upEmb : UEmb _ 𝕄) (landPts (F := F) c f) := by unfold landPts; infer_instance

omit [FloatOps F] in
/-- Holding the partial buffer through its view is holding the buffer; likewise the landing buffer. -/
theorem partPts_eq (c : Dev nD) (f : Buf (Elt F) ((c : Thread nD τ).loc cc0_scratch2)) :
    partPts c f = (((c : Thread nD τ).loc cc0_scratch2) ↦{fullShare} f : sProp 𝕄) := by
  unfold partPts; rw [show partM.view.set = Finset.univ from View.set_whole _]
omit [FloatOps F] in
theorem landPts_eq (c : Dev nD) (f : Buf (Elt F) ((c : Thread nD τ).loc cc0_scratch3)) :
    landPts c f = (((c : Thread nD τ).loc cc0_scratch3) ↦{fullShare} f : sProp 𝕄) := by
  unfold landPts; rw [show landM.view.set = Finset.univ from View.set_whole _]

omit [FloatOps F] in
/-- A whole copy of the partial buffer into a landing buffer leaves the partial buffer's contents there. -/
theorem copy_whole (fd : (cc0_scratch3 : Ref sig .tc).ty.Contents (Elt F)) (fs : (cc0_scratch2 : Ref sig .tc).ty.Contents (Elt F)) :
    landM.view.write (Elt F) fd (partM.view.read (Elt F) fs) Finset.univ = fs := by
  show (View.whole cc0_scratch3).write (Elt F) fd ((View.whole cc0_scratch2).read (Elt F) fs) Finset.univ = fs
  rw [View.read_whole]
  exact View.write_whole_univ _ _ _

/-! ## The schedule -/

/-- What the partner's barrier unit hands device `c`. -/
def barPay (c : Dev nD) : sProp 𝕄 := iprop((∃ f, landPts (peer c) f) ∗ reached EX (recvCell (peer c)) 0)

/-- The cells of the exchange. -/
abbrev IsX (g : GSem nD τ sig) : Prop := g.1.2 = .tc ∧ (g.2 = .reg barS ∨ g.2 = .dma sendS ∨ g.2 = .dma recvS)

/-- One round of one duty on every cell of the exchange. -/
def sched : Rounds.Schedule (GSem nD τ sig) Unit 𝕄 where
  duties g r := if r = 0 ∧ IsX g then {()} else ∅
  unitless _ := False
  amount g _ _ := if g.2 = .reg barS then 1 else amt
  payload g _ _ :=
    if g.2 = .reg barS then barPay g.1.1
    else if g.2 = .dma recvS then landPts g.1.1 (landed m g.1.1)
    else if g.2 = .dma sendS then partPts g.1.1 (part m g.1.1)
    else iprop(emp)
  amount_pos g _ _ _ := by split; exacts [Nat.one_pos, amt_pos]

instance sched_storable (g : GSem nD τ sig) (r : ℕ) (d : Unit) :
    BI.Storable (upEmb : UEmb _ 𝕄) ((sched (F := F) m).payload g r d) := by
  show BI.Storable upEmb (if g.2 = .reg barS then barPay g.1.1 else if g.2 = .dma recvS then landPts g.1.1 (landed m g.1.1)
    else if g.2 = .dma sendS then partPts g.1.1 (part m g.1.1) else iprop(emp))
  unfold barPay
  (repeat' split) <;> infer_instance

section Tables
variable (c : Dev nD)

theorem send_ne_bar : (SemLoc.dma sendS : SemLoc sig) ≠ .reg barS := fun h => by cases h
theorem recv_ne_bar : (SemLoc.dma recvS : SemLoc sig) ≠ .reg barS := fun h => by cases h
theorem send_ne_recv : (SemLoc.dma sendS : SemLoc sig) ≠ .dma recvS := by decide

/-- Every cell of the exchange has one duty in round 0 and none later. -/
theorem duties_x (k : Fin 3) : (sched (F := F) m).duties (xcell (c, k)) 0 = {()} := by
  dsimp only [sched]; refine if_pos ⟨rfl, rfl, ?_⟩
  fin_cases k
  exacts [.inl rfl, .inr (.inl rfl), .inr (.inr rfl)]
theorem duties_later (g : GSem nD τ sig) : ∀ r, 1 ≤ r → (sched (F := F) m).duties g r = ∅ :=
  fun r hr => by dsimp only [sched]; rw [if_neg fun h => by omega]

theorem amount_bar : (sched (F := F) m).amount (barCell c) 0 () = 1 := by dsimp only [sched]; exact if_pos rfl
theorem amount_send : (sched (F := F) m).amount (sendCell c) 0 () = amt := by dsimp only [sched]; exact if_neg send_ne_bar
theorem amount_recv : (sched (F := F) m).amount (recvCell c) 0 () = amt := by dsimp only [sched]; exact if_neg recv_ne_bar

/-- A round expects its one duty's amount. -/
theorem expect_x (k : Fin 3) : (sched (F := F) m).expect (xcell (c, k)) 0 = (sched (F := F) m).amount (xcell (c, k)) 0 () := by
  unfold Schedule.expect Schedule.amountOf; rw [duties_x, Finset.sum_singleton]
theorem expect_bar : (sched (F := F) m).expect (barCell c) 0 = 1 := (expect_x m c 0).trans (amount_bar m c)
theorem expect_send : (sched (F := F) m).expect (sendCell c) 0 = amt := (expect_x m c 1).trans (amount_send m c)
theorem expect_recv : (sched (F := F) m).expect (recvCell c) 0 = amt := (expect_x m c 2).trans (amount_recv m c)

theorem payload_bar : (sched (F := F) m).payload (barCell c) 0 () = barPay c := by dsimp only [sched]; exact if_pos rfl
theorem payload_send : (sched (F := F) m).payload (sendCell c) 0 () = partPts c (part m c) := by
  dsimp only [sched]; rw [if_neg send_ne_bar, if_neg send_ne_recv, if_pos rfl]
theorem payload_recv : (sched (F := F) m).payload (recvCell c) 0 () = landPts c (landed m c) := by
  dsimp only [sched]; rw [if_neg recv_ne_bar, if_pos rfl]

/-- The rest of a round, nothing taken: its one duty's payload. -/
theorem rest_x (k : Fin 3) : bigSep ((sched (F := F) m).duties (xcell (c, k)) 0 \ ∅) (fun d => (sched (F := F) m).payload (xcell (c, k)) 0 d)
    = (sched (F := F) m).payload (xcell (c, k)) 0 () := by
  rw [Finset.sdiff_empty, duties_x, bigSep_singleton]
theorem rest_bar : bigSep ((sched (F := F) m).duties (barCell c) 0 \ ∅) (fun d => (sched (F := F) m).payload (barCell c) 0 d) = barPay c :=
  (rest_x m c 0).trans (payload_bar m c)
theorem rest_send : bigSep ((sched (F := F) m).duties (sendCell c) 0 \ ∅) (fun d => (sched (F := F) m).payload (sendCell c) 0 d) = partPts c (part m c) :=
  (rest_x m c 1).trans (payload_send m c)
theorem rest_recv : bigSep ((sched (F := F) m).duties (recvCell c) 0 \ ∅) (fun d => (sched (F := F) m).payload (recvCell c) 0 d) = landPts c (landed m c) :=
  (rest_x m c 2).trans (payload_recv m c)

end Tables

/-! ## What a device owes at launch; the order of the waits -/

/-- After its barrier signal a device owes the partner's receive cell the copy's amount. -/
def owedCopy (c : Dev nD) : CellTallies nD τ sig Unit := tallyAt (recvCell (peer c)) () amt
/-- At launch it owes the partner's barrier cell one unit besides. -/
def owed₀ (c : Dev nD) : CellTallies nD τ sig Unit := owedCopy c + tallyAt (barCell (peer c)) () 1

/-- Every TensorCore cell has one index. -/
def L (g : GSem nD τ sig) : Finset Unit := if g.1.2 = .tc then {()} else ∅
/-- Receive cells are the highest, barrier cells next, every other cell (local copies, staging, send) the lowest. -/
def lv (g : GSem nD τ sig) (_ : Unit) : ℕ := if g.2 = .reg barS then 1 else if g.2 = .dma recvS then 2 else 0

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) (u : Unit) : lv (barCell c) u = 1 := if_pos rfl
theorem lv_recv (c : Dev nD) (u : Unit) : lv (recvCell c) u = 2 := (if_neg recv_ne_bar).trans (if_pos rfl)

/-- A debt that is not nothing is the copy's or the barrier's. -/
theorem owedCopy_pos {c : Dev nD} {g : GSem nD τ sig} {u : Unit} (h : 0 < owedCopy c g u) : g = recvCell (peer c) := by
  unfold owedCopy at h
  by_contra hn
  rw [tallyAt_apply, if_neg fun h' => hn h'.1] at h
  exact Nat.lt_irrefl 0 h
theorem owed₀_pos {c : Dev nD} {g : GSem nD τ sig} {u : Unit} (h : 0 < owed₀ c g u) : g = recvCell (peer c) ∨ g = barCell (peer c) := by
  unfold owed₀ at h
  rw [Pi.add_apply, Finsupp.add_apply] at h
  by_contra hn
  rw [not_or] at hn
  have h1 : owedCopy c g u = 0 := Nat.eq_zero_of_not_pos fun h' => hn.1 (owedCopy_pos h')
  rw [h1, tallyAt_apply, if_neg fun h' => hn.2 h'.1] at h
  exact Nat.lt_irrefl 0 h

omit [FloatOps F] in
/-- A device may wait on a lowest DMA cell of its own while it owes both debts, -/
theorem mayWait_low₀ (c : Dev nD) (q : DmaSem sig) (hq : SemLoc.dma q ≠ .dma recvS) :
    (levAts L lv : sProp 𝕄) ⊢ MayWait (c : Thread nD τ) (.dma q) () (owed₀ c) :=
  MayOwe.of_cut (L := L) (lev := lv) 0 (fun p hp => by rw [Finset.mem_singleton.mp hp, L_tc]; exact Finset.mem_singleton_self _)
    (fun g u hg => by rcases owed₀_pos hg with rfl | rfl <;> exact Finset.mem_singleton_self _)
    (fun p hp => by rw [Finset.mem_singleton.mp hp]; dsimp only [lv]; rw [if_neg (fun h => by cases h), if_neg hq])
    (fun g u hg => by rcases owed₀_pos hg with rfl | rfl; exacts [(lv_recv _ u).symm ▸ by decide, (lv_bar _ u).symm ▸ by decide])
omit [FloatOps F] in
/-- or only the copy's; -/
theorem mayWait_low (c : Dev nD) (q : DmaSem sig) (hq : SemLoc.dma q ≠ .dma recvS) :
    (levAts L lv : sProp 𝕄) ⊢ MayWait (c : Thread nD τ) (.dma q) () (owedCopy c) :=
  MayOwe.of_cut (L := L) (lev := lv) 0 (fun p hp => by rw [Finset.mem_singleton.mp hp, L_tc]; exact Finset.mem_singleton_self _)
    (fun g u hg => by rw [owedCopy_pos hg]; exact Finset.mem_singleton_self _)
    (fun p hp => by rw [Finset.mem_singleton.mp hp]; dsimp only [lv]; rw [if_neg (fun h => by cases h), if_neg hq])
    (fun g u hg => by rw [owedCopy_pos hg]; exact (lv_recv _ u).symm ▸ by decide)
omit [FloatOps F] in
/-- and on its barrier cell while it owes the copy's. -/
theorem mayWait_bar (c : Dev nD) : (levAts L lv : sProp 𝕄) ⊢ MayWait (c : Thread nD τ) (.reg barS) () (owedCopy c) :=
  MayOwe.of_cut (L := L) (lev := lv) 1 (fun p hp => by rw [Finset.mem_singleton.mp hp, L_tc]; exact Finset.mem_singleton_self _)
    (fun g u hg => by rw [owedCopy_pos hg]; exact Finset.mem_singleton_self _)
    (fun p hp => by rw [Finset.mem_singleton.mp hp]; exact (lv_bar c ()).le)
    (fun g u hg => by rw [owedCopy_pos hg]; exact (lv_recv _ u).symm ▸ by decide)

end Cert.KernelIdeal.Exchange

end
-- ==== Proof.Chunks.lean ====
/-
What the local copies and the stores of the two rows leave, read as functions of the argument arrays.

A copy of 128 rows of an argument array carries `rows k` of it; the two row stores leave the array whose first row is
the first store's and whose second row is the second's.
-/
module

public import proofs.«01_k».proof.Proof.Protocol

@[expose] public section

noncomputable section

namespace Cert.KernelIdeal.Exchange

open Cert.KernelIdeal Cert.KernelIdeal.Gen
open Idealize.ShloMosaic Idealize.ShloMosaic.TcCoe
open Idealize.SL.Sem
open Idealize.ShloMosaic.ValueIdx

variable {F : FTy → Type} [FloatOps F]

omit [FloatOps F] in
/-- Rows `off 0` to `off 0 + 127`, the window a copy or a load names, placed in the array. -/
theorem rows_emb (A : FVec F S512x512 .f32) (k : Fin 4) {off : Fin 2 → ℕ} (ho : off = ![128 * k.val, 0])
    (h : ∀ a, off a + S128x512.size a ≤ S512x512.size a) (i : S128x512.Idx) :
    rows k A i = A ((Rect.unit (s := S512x512) off S128x512.size h).emb i) := by
  subst ho
  unfold rows
  refine congrArg A (funext fun a => Fin.ext ?_)
  rw [Rect.emb_apply]
  match a with
  | ⟨0, _⟩ => show 128 * k.val + (i 0).val = 128 * k.val + 1 * (i 0).val; omega
  | ⟨1, _⟩ => show (i 1).val = 0 + 1 * (i 1).val; omega

omit [FloatOps F] in
/-- The first argument read through the window of its rows `128 k` to `128 k + 127` is `rows k` of it; -/
theorem read_x (k : Fin 4) {off : Fin 2 → ℕ} (ho : off = ![128 * k.val, 0])
    (h : ∀ a, off a + S128x512.size a ≤ S512x512.size a) (hw)
    (A : FVec F S512x512 .f32) :
    View.read (Elt F) ((Memref.whole main_arg0 : Memref sig .tc .hbm S512x512 .f32).slice (Rect.unit off S128x512.size h) hw).view A = rows k A := by
  funext i; exact (rows_emb A k ho h i).symm

omit [FloatOps F] in
/-- likewise the second. -/
theorem read_dy (k : Fin 4) {off : Fin 2 → ℕ} (ho : off = ![128 * k.val, 0])
    (h : ∀ a, off a + S128x512.size a ≤ S512x512.size a) (hw)
    (A : FVec F S512x512 .f32) :
    View.read (Elt F) ((Memref.whole main_arg1 : Memref sig .tc .hbm S512x512 .f32).slice (Rect.unit off S128x512.size h) hw).view A = rows k A :=
  read_x k ho h hw A

/-- A scratch buffer filled by the four copies of an array's row blocks, loaded through the window of block `k`, gives
    `rows k` of the array. -/
theorem readCov_rows (v : View sig .tc .vmem S512x512 .f32) (A : FVec F S512x512 .f32) (k : Fin 4)
    {w0 w1 w2 w3 : FVec F S128x512 .f32} (e0 : w0 = rows 0 A) (e1 : w1 = rows 1 A) (e2 : w2 = rows 2 A) (e3 : w3 = rows 3 A)
    (h0) (h1) (h2) (h3) {off : Fin 2 → ℕ} (ho : off = ![128 * k.val, 0]) (h : ∀ a, off a + S128x512.size a ≤ S512x512.size a) :
    v.readCov (Val := Elt F) [⟨Rect.unit (s := S512x512) ![384, 0] S128x512.size h3, w3⟩, ⟨Rect.unit (s := S512x512) ![256, 0] S128x512.size h2, w2⟩,
      ⟨Rect.unit (s := S512x512) ![128, 0] S128x512.size h1, w1⟩, ⟨Rect.unit (s := S512x512) ![0, 0] S128x512.size h0, w0⟩]
      (Rect.unit (s := S512x512) off S128x512.size h).toLoadRect = rows k A := by
  subst e0 e1 e2 e3
  funext i
  rw [rows_emb A k ho h i]
  refine View.read_writes_apply_of_pieces (Val := Elt F) (e := .f32) v v.junk A _ ?_ _ ?_
  · intro p hp x
    simp only [List.mem_cons, List.not_mem_nil, or_false] at hp
    rcases hp with rfl | rfl | rfl | rfl
    · exact rows_emb A 3 rfl h3 x
    · exact rows_emb A 2 rfl h2 x
    · exact rows_emb A 1 rfl h1 x
    · exact rows_emb A 0 rfl h0 x
  · subst ho
    fin_cases k
    · exact ⟨_, List.mem_cons_of_mem _ (List.mem_cons_of_mem _ (List.mem_cons_of_mem _ List.mem_cons_self)), LoadRect.idx_mem _ i⟩
    · exact ⟨_, List.mem_cons_of_mem _ (List.mem_cons_of_mem _ List.mem_cons_self), LoadRect.idx_mem _ i⟩
    · exact ⟨_, List.mem_cons_of_mem _ List.mem_cons_self, LoadRect.idx_mem _ i⟩
    · exact ⟨_, List.mem_cons_self, LoadRect.idx_mem _ i⟩

omit [FloatOps F] in
/-- The partial buffer after a store of its first row and a store of its second. -/
theorem writes_two_rows (f : (cc0_scratch2 : Ref sig .tc).ty.Contents (Elt F)) (a b : FVec F S1x512 .f32) :
    partM.view.writes (Elt F) f
      [⟨Rect.unit ![1, 0] S1x512.size inb_S2x512_S1x512_1_0, b⟩, ⟨Rect.unit ![0, 0] S1x512.size inb_S2x512_S1x512_0_0, a⟩]
      = (fun i : S2x512.Idx => if (i 0).val = 0 then a (ix2 (0 : Fin 1) (i 1)) else b (ix2 (0 : Fin 1) (i 1))) := by
  funext y
  rw [← View.read_whole (Val := Elt F) cc0_scratch2 (partM.view.writes (Elt F) f _)]
  refine (View.read_writes_apply_of_pieces partM.view f
    (fun i : S2x512.Idx => if (i 0).val = 0 then a (ix2 (0 : Fin 1) (i 1)) else b (ix2 (0 : Fin 1) (i 1))) _ ?_ y ?_)
  · intro p hp x
    rcases List.mem_cons.mp hp with rfl | hp
    · have h0 : ((Rect.unit (s := S2x512) ![1, 0] S1x512.size inb_S2x512_S1x512_1_0).emb x 0).val ≠ 0 := by
        rw [Rect.emb_apply]; show 1 + 1 * (x 0).val ≠ 0; omega
      dsimp only
      rw [if_neg h0]
      refine congrArg b (funext fun d => Fin.ext ?_)
      match d with
      | ⟨0, _⟩ => exact Nat.lt_one_iff.mp (x 0).isLt
      | ⟨1, _⟩ => show (x 1).val = 0 + 1 * (x 1).val; omega
    · rcases List.mem_singleton.mp hp with rfl
      have h0 : ((Rect.unit (s := S2x512) ![0, 0] S1x512.size inb_S2x512_S1x512_0_0).emb x 0).val = 0 := by
        rw [Rect.emb_apply]; show 0 + 1 * (x 0).val = 0; have : (x 0).val < 1 := (x 0).isLt; omega
      dsimp only
      rw [if_pos h0]
      refine congrArg a (funext fun d => Fin.ext ?_)
      match d with
      | ⟨0, _⟩ => exact Nat.lt_one_iff.mp (x 0).isLt
      | ⟨1, _⟩ => show (x 1).val = 0 + 1 * (x 1).val; omega
  · have hy0 : ((y : S2x512.Idx) 0).val < 2 := idx2_lt0 (n0 := 2) (n1 := 512) y
    have hy1 : ((y : S2x512.Idx) 1).val < 512 := idx2_lt1 (n0 := 2) (n1 := 512) y
    by_cases h : ((y : S2x512.Idx) 0).val = 0
    · refine ⟨_, List.mem_cons_of_mem _ List.mem_cons_self, (Rect.mem_set_unit (inb := inb_S2x512_S1x512_0_0)).mpr fun d => ?_⟩
      match d with
      | ⟨0, _⟩ => exact ⟨Nat.zero_le _, by show ((y : S2x512.Idx) 0).val < 0 + 1; omega⟩
      | ⟨1, _⟩ => exact ⟨Nat.zero_le _, by show ((y : S2x512.Idx) 1).val < 0 + 512; omega⟩
    · refine ⟨_, List.mem_cons_self, (Rect.mem_set_unit (inb := inb_S2x512_S1x512_1_0)).mpr fun d => ?_⟩
      match d with
      | ⟨0, _⟩ => exact ⟨by show 1 ≤ ((y : S2x512.Idx) 0).val; omega, by show ((y : S2x512.Idx) 0).val < 1 + 1; omega⟩
      | ⟨1, _⟩ => exact ⟨Nat.zero_le _, by show ((y : S2x512.Idx) 1).val < 0 + 512; omega⟩

end Cert.KernelIdeal.Exchange

end
-- ==== Proof.Body.lean ====
/-
What each device holds before and after the kernel's body, and the run of the body between the two.

Before: the exchange's invariants, positions and tokens, the credit for what the partner will pay, the argument arrays
and the scratch buffers, the eight copy semaphores at zero. After: the argument arrays unchanged, the result computed,
every semaphore of the launch at zero.
-/
module

public import proofs.«01_k».proof.Proof.Chunks

@[expose] public section

noncomputable section

namespace Cert.KernelIdeal.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Tactic
open Idealize.ShloMosaic.Pipeline (Dat Cfg Window BodyObligation cellOf)

variable {F : FTy → Type} [FloatOps F]

local notation "𝕄" => MT nD τ sig Unit (Elt F) ℕ UX ℕ

variable (m : (ℓ : Loc nD τ sig) → Buf (Elt F) ℓ) (ρ : Dev nD → PrngReg)

/-! ## The schedule's tables, as the run reads them -/

theorem duties_bar (c : Dev nD) : (sched (F := F) m).duties (barCell c) 0 = {()} := duties_x m c 0
theorem duties_send (c : Dev nD) : (sched (F := F) m).duties (sendCell c) 0 = {()} := duties_x m c 1
theorem duties_recv (c : Dev nD) : (sched (F := F) m).duties (recvCell c) 0 = {()} := duties_x m c 2

attribute [local sl_rounds] duties_bar duties_send duties_recv amount_bar amount_send amount_recv expect_bar expect_send expect_recv
  payload_bar payload_send payload_recv

/-! ## The state around the body -/

/-- The invariants device `c` opens: its three cells', its partner's barrier and receive cells'. -/
def invs (K : Dev nD × Fin 3 → ℕ) (c : Dev nD) : sProp 𝕄 :=
  iprop(cellInv EX (sched m) (K (c, 0)) (barCell c) ∗ cellInv EX (sched m) (K (c, 1)) (sendCell c) ∗ cellInv EX (sched m) (K (c, 2)) (recvCell c)
    ∗ cellInv EX (sched m) (K (peer c, 0)) (barCell (peer c)) ∗ cellInv EX (sched m) (K (peer c, 2)) (recvCell (peer c)))

instance invs_persistent (K : Dev nD × Fin 3 → ℕ) (c : Dev nD) : BI.Persistent (invs m K c) := by unfold invs; infer_instance

/-- The exchange's state device `c` starts from: the invariants, its positions at round 0, the marks of the rounds
    reached, and the tokens of the three duties it pays: its partner's barrier and receive cells, its own send cell. -/
def ghost (K : Dev nD × Fin 3 → ℕ) (c : Dev nD) : sProp 𝕄 :=
  iprop(invs m K c
    ∗ atPos EX (barCell c) 0 ∅ 0 ∗ atPos EX (sendCell c) 0 ∅ 0 ∗ atPos EX (recvCell c) 0 ∅ 0
    ∗ reached EX (barCell (peer c)) 0 ∗ reached EX (recvCell (peer c)) 0 ∗ reached EX (sendCell c) 0 ∗ reached EX (recvCell c) 0
    ∗ dutyTok EX (barCell (peer c)) 0 () ∗ dutyTok EX (recvCell (peer c)) 0 () ∗ dutyTok EX (sendCell c) 0 ())

/-- The arrays and buffers the body reads and writes besides the partial and landing buffers. -/
abbrev xM : Memref sig .tc .hbm S512x512 .f32 := Memref.whole main_arg0
abbrev dyM : Memref sig .tc .hbm S512x512 .f32 := Memref.whole main_arg1
abbrev sxM : Memref sig .tc .vmem S512x512 .f32 := Memref.whole cc0_scratch0
abbrev sdM : Memref sig .tc .vmem S512x512 .f32 := Memref.whole cc0_scratch1
abbrev outM : Memref sig .tc .vmem S2x512 .f32 := Memref.whole cc0_stg0_0

/-- The argument arrays, whole, as launched. -/
def args (c : Dev nD) : sProp 𝕄 :=
  iprop((xM.view.loc (c : Thread nD τ) ↦{fullShare} xAt m c) ∗ (dyM.view.loc (c : Thread nD τ) ↦{fullShare} dyAt m c)
    ∗ (((c : Thread nD τ).loc main_arg2) ↦{fullShare} m ((c : Thread nD τ).loc main_arg2)))

/-- The copy semaphores at zero. -/
def copySems (c : Dev nD) : sProp 𝕄 :=
  iprop(semVal ((c : Thread nD τ), SemLoc.dma 1) 0 ∗ semVal ((c : Thread nD τ), SemLoc.dma 2) 0 ∗ semVal ((c : Thread nD τ), SemLoc.dma 3) 0
    ∗ semVal ((c : Thread nD τ), SemLoc.dma 4) 0 ∗ semVal ((c : Thread nD τ), SemLoc.dma 5) 0 ∗ semVal ((c : Thread nD τ), SemLoc.dma 6) 0
    ∗ semVal ((c : Thread nD τ), SemLoc.dma 7) 0 ∗ semVal ((c : Thread nD τ), SemLoc.dma 8) 0)

/-- The scratch buffers, each whole at some contents. -/
def scratch (c : Dev nD) : sProp 𝕄 :=
  iprop((∃ f : Buf (Elt F) (sxM.view.loc (c : Thread nD τ)), sxM.view.loc (c : Thread nD τ) ↦{fullShare} f)
    ∗ (∃ f : Buf (Elt F) (sdM.view.loc (c : Thread nD τ)), sdM.view.loc (c : Thread nD τ) ↦{fullShare} f)
    ∗ (∃ f : Buf (Elt F) (partM.view.loc (c : Thread nD τ)), partM.view.loc (c : Thread nD τ) ↦{fullShare} f)
    ∗ (∃ f : Buf (Elt F) (landM.view.loc (c : Thread nD τ)), landM.view.loc (c : Thread nD τ) ↦{fullShare} f))

/-- What device `c` takes into the launch: the exchange's state at some names, its credit (one barrier unit, the copy's
    amount), the order of the waits, and the arguments. -/
def start (c : Dev nD) : sProp 𝕄 :=
  iprop((∃ K, ghost m K c) ∗ cred (tallyAt (barCell c) () 1) ∗ cred (tallyAt (recvCell c) () amt) ∗ levAts L lv ∗ args m c)

/-- Before the body: that, the copy semaphores and the scratch buffers. -/
def Φ₀ (c : Dev nD) : sProp 𝕄 := iprop(start m c ∗ copySems c ∗ scratch c)
/-- After it: the arguments, every semaphore at zero, the scratch buffers. -/
def Φ₁ (c : Dev nD) : sProp 𝕄 :=
  iprop(args m c ∗ semVal (barCell c) 0 ∗ (copySems c ∗ semVal (sendCell c) 0 ∗ semVal (recvCell c) 0) ∗ scratch c)

/-- The proof data of the launch: the result array as launched, the staged result, the states around the body and the
    debts. -/
def dats (_ : Fin 1) (c : Dev nD) : Dat τ (Elt F) Unit ℕ UX ℕ cfg0 c where
  A w := m ((cfg0.win w).arr.view.loc (c : Thread nD τ))
  after w _ := match w with
    | ⟨0, _⟩ => outVal m c
  Φ t := match t with
    | ⟨0, _⟩ => Φ₀ m c
    | ⟨_ + 1, _⟩ => Φ₁ m c
  q _ := fullShare
  owed t := match t with
    | ⟨0, _⟩ => owed₀ c
    | ⟨_ + 1, _⟩ => 0

abbrev 𝒱₀ : Variants := Variants.none

omit [FloatOps F] in
/-- Owning a whole buffer's view at contents is holding the buffer at them. -/
theorem owns_whole (c : Dev nD) (b : Ref sig .tc) (X : b.ty.Contents (Elt F)) :
    (owns (Ix := Unit) (Name := ℕ) (U := UX) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A buffer held whole at contents equal to `X`. -/
abbrev heldAt (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

section Body
variable (K : Dev nD × Fin 3 → ℕ)

/-- The body's state before, the names fixed. -/
def bodyPre (c : Dev nD) : sProp 𝕄 :=
  iprop((ghost m K c ∗ cred (tallyAt (barCell c) () 1) ∗ cred (tallyAt (recvCell c) () amt) ∗ levAts L lv ∗ args m c)
    ∗ copySems c ∗ scratch c
    ∗ (dats m 0 c).owesAt () t0_0.castSucc
    ∗ (∃ d, heldAt c cc0_stg0_0 ((dats m 0 c).before (0 : Fin 1) t0_0 d)))

/-- The body's state after. -/
def bodyPost (c : Dev nD) : sProp 𝕄 :=
  iprop(Φ₁ m c ∗ (dats m 0 c).owesAt () t0_0.succ ∗ heldAt c cc0_stg0_0 (outVal m c))

/-- What lands in the partner's landing buffer is the device's own partial result. -/
theorem landed_peer (c : Dev nD) : landed m (peer c) = part m c := by unfold landed part; rw [peer_peer]

/-- The copy of device `c`'s partial buffer into its partner's landing buffer: it takes both buffers and the two duties'
    tokens, and leaves the credit of its own send cell and no debt. -/
theorem wp_exchange (c : Dev nD) {hsc : (landM : Memref sig (Dev.tc (peer c) : Thread nD τ).2.kind .vmem S2x512 .f32).view.ref.isScScratch = false}
    {hsrc : (partM : Memref sig .tc .vmem S2x512 .f32).view.WordExact} {hdst : (landM : Memref sig .tc .vmem S2x512 .f32).view.WordExact}
    {hsem : DmaTarget.Typed .vmem (.dma recvS) (.remote (Dev.tc (peer c) : Thread nD τ) (landM : Memref sig .tc .vmem S2x512 .f32) (.dma sendS) hsc)}
    {α : Type} {Q : α → sProp 𝕄} {k : PUnit → Prog (TpuEff nD τ sig (Elt F) Λ₀ .tc) α}
    (fn : Buf (Elt F) ((peer c : Thread nD τ).loc cc0_scratch3)) (W : Waits sig Unit) :
    iprop(cellInv EX (sched m) (K (c, 1)) (sendCell c) ∗ cellInv EX (sched m) (K (peer c, 2)) (recvCell (peer c))
        ∗ partPts c (part m c) ∗ landPts (peer c) fn
        ∗ owes (c : Thread nD τ) (owedCopy c) W
        ∗ dutyTok EX (sendCell c) 0 () ∗ reached EX (sendCell c) 0
        ∗ dutyTok EX (recvCell (peer c)) 0 () ∗ reached EX (recvCell (peer c)) 0)
      ⊢ iprop(((cred (tallyAt (sendCell c) () amt) ∗ owes (c : Thread nD τ) 0 W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma partM (.remote (Dev.tc (peer c) : Thread nD τ) landM (.dma sendS) hsc) (.dma recvS) hsrc hdst hsem) k) Q) := by
  have hp1 : partPts c (part m c) ⊢ (sched (F := F) m).payload (sendCell c) 0 () := Entails.of_eq (payload_send m c).symm
  have hp2 : landPts (peer c) (landM.view.write (Elt F) fn (partM.view.read (Elt F) (part m c)) Finset.univ) ⊢ (sched (F := F) m).payload (recvCell (peer c)) 0 () := by
    rw [copy_whole, payload_recv, landed_peer]
  unfold partPts at hp1 ⊢
  unfold landPts at hp2 ⊢
  have d1 : () ∈ (sched (F := F) m).duties (sendCell c) 0 := by rw [duties_send]; exact Finset.mem_singleton_self _
  have d2 : () ∈ (sched (F := F) m).duties (recvCell (peer c)) 0 := by rw [duties_recv]; exact Finset.mem_singleton_self _
  have ho : owedCopy c = 0 + tallyAt (recvCell (peer c)) () amt := (zero_add _).symm
  have hr : τ.routes (c : Thread nD τ) (peer c : Thread nD τ) = true := by routes
  have a1 := amount_send m c
  have a2 := amount_recv m (peer c)
  have hN : landM.view.amount (.dma recvS) = amt := rfl
  generalize amt = N at *
  exact Rounds.wp_send_pointsTo (defs := defs₀ (F := F)) 𝒱₀ EX (sched m) (c : Thread nD τ) none (Γ := .empty)
    (κ₁ := K (c, 1)) (κ₂ := K (peer c, 2)) (c' := (Dev.tc (peer c) : Thread nD τ))
    (src := partM) (dst := landM) (sS := .dma sendS) (sem := .dma recvS) (hsc := hsc) (hsrc := hsrc) (hdst := hdst) (hsem := hsem)
    (k := k) (Q := Q) (Es := Set.univ)
    (q := fullShare) (fs := part m c) (r₁ := 0) (r₂ := 0) (d₁ := ()) (d₂ := ()) (fd := fn) d1 d2 () () N hN a1 a2 0 ho (W := W) hp1 hp2 hr

/-- The offsets of a whole window are zero. -/
theorem hz : (![0, 0] : Fin 2 → ℕ) = fun _ => 0 := by funext a; fin_cases a <;> rfl

omit [FloatOps F] in
/-- A load of the whole partial buffer reads its contents; likewise of the landing buffer; a store of the whole result
    buffer leaves what was stored. -/
theorem read_part (f : (cc0_scratch2 : Ref sig .tc).ty.Contents (Elt F)) :
    partM.view.readAt (Elt F) (Rect.unit ![0, 0] S2x512.size inb_S2x512_S2x512_0_0).toLoadRect f = f :=
  Memref.readAt_unit_zero (Elt F) cc0_scratch2 hz _ f
omit [FloatOps F] in
theorem read_land (f : (cc0_scratch3 : Ref sig .tc).ty.Contents (Elt F)) :
    landM.view.readAt (Elt F) (Rect.unit ![0, 0] S2x512.size inb_S2x512_S2x512_0_0).toLoadRect f = f :=
  Memref.readAt_unit_zero (Elt F) cc0_scratch3 hz _ f

omit [FloatOps F] in
theorem write_out (f w : (cc0_stg0_0 : Ref sig .tc).ty.Contents (Elt F)) :
    ((outM : Memref sig .tc .vmem S2x512 .f32).access (Rect.unit ![0, 0] S2x512.size inb_S2x512_S2x512_0_0)).write (Elt F) f w Finset.univ = w :=
  Memref.write_access_unit_zero_univ (Elt F) cc0_stg0_0 hz _ f w

set_option sl_exec.dmaWindow true in
set_option maxHeartbeats 4000000 in
/-- The body's run. -/
theorem sound_body (c : Dev nD) (Kt : PUnit → sProp 𝕄) :
    iprop(bodyPre m K c ∗ (bodyPost m c -∗ Kt ⟨⟩))
      ⊢ wp frame (wpE (defs₀ (F := F)) 𝒱₀ c none) Set.univ
          (cc0_body (Memref.whole main_arg0) (Memref.isWhole_whole _) (Memref.whole main_arg1) (Memref.isWhole_whole _)
            (Memref.whole cc0_stg0_0) (Memref.isWhole_whole _) (Memref.whole cc0_scratch0) (Memref.isWhole_whole _)
            (Memref.whole cc0_scratch1) (Memref.isWhole_whole _) (Memref.whole cc0_scratch2) (Memref.isWhole_whole _)
            (Memref.whole cc0_scratch3) (Memref.isWhole_whole _) cc0_scratch4 cc0_scratch5 cc0_scratch6) Kt := by
  unfold bodyPre ghost invs args copySems scratch
  iintro ⟨⟨⟨⟨⟨#HIbar, #HIsnd, #HIrcv, #HIbarP, #HIrcvP⟩, HatB, HatS, HatV, #HrBP, #HrVP, #HrS, #HrV, HtBP, HtVP, HtS⟩, HcB, HcV, #Hlev,
      Hx, Hdy, Hga⟩, ⟨Hz1, Hz2, Hz3, Hz4, Hz5, Hz6, Hz7, Hz8⟩, ⟨⟨%fx, Hsx⟩, ⟨%fd, Hsd⟩, ⟨%fp, Hpart⟩, ⟨%fl, Hland⟩⟩,
    Ho, ⟨%d0, %g0, %hg0, Hout⟩⟩, Hk⟩
  unfold Dat.owesAt Pipeline.owesWithin
  icases Ho with ⟨%W, %hW, HO⟩
  rw [show (dats m 0 c).owed t0_0.castSucc = owed₀ c from rfl]
  ihave Hout := (show (((c : Thread nD τ).loc cc0_stg0_0 ↦{fullShare} g0) : sProp 𝕄) ⊢ (outM.view.loc (c : Thread nD τ) ↦{fullShare} g0) from .rfl) $$ Hout
  rw [cc0_body_eq_skeleton]; unfold cc0_body_skel
  have h1 := dev1_peer c
  have h2 := dev2_peer c
  unfold owed₀
  sl_exec
  -- the barrier signal to the partner, with the landing buffer
  iapply (Rounds.wp_signal 𝒱₀ EX (sched m) (c : Thread nD τ) none (dst := (peer c : Thread nD τ)) (κ := K (peer c, 0))
      (d := ()) (by rw [duties_bar]; exact Finset.mem_singleton_self _) ((amount_bar m (peer c)).trans (by decide)) () (owedCopy c) rfl)
    $$ [HO HtBP Hland]
  · isplitr; · iexact HIbarP
    isplitl [HO]; · iexact HO
    isplitl [HtBP]; · iexact HtBP
    isplitl [Hland]
    · rw [payload_bar]; unfold barPay; rw [peer_peer]
      isplitl [Hland]; · iexists fl; rw [landPts_eq]; iexact Hland
      iexact HrV
    · iexact HrBP
  iintro HO
  have hw := mayWait_low (F := F) c
  sl_exec
  -- the eight copies carry the arguments' row blocks
  have cx0 : sound_body.sl.dma0 m c = rows 0 (xAt m c) := by unfold sound_body.sl.dma0; exact read_x 0 rfl _ _ _
  have cd0 : sound_body.sl.dma0_1 m c = rows 0 (dyAt m c) := by unfold sound_body.sl.dma0_1; exact read_dy 0 rfl _ _ _
  have cx1 : sound_body.sl.dma0_2 m c = rows 1 (xAt m c) := by unfold sound_body.sl.dma0_2; exact read_x 1 rfl _ _ _
  have cd1 : sound_body.sl.dma0_3 m c = rows 1 (dyAt m c) := by unfold sound_body.sl.dma0_3; exact read_dy 1 rfl _ _ _
  have cx2 : sound_body.sl.dma0_4 m c = rows 2 (xAt m c) := by unfold sound_body.sl.dma0_4; exact read_x 2 rfl _ _ _
  have cd2 : sound_body.sl.dma0_5 m c = rows 2 (dyAt m c) := by unfold sound_body.sl.dma0_5; exact read_dy 2 rfl _ _ _
  have cx3 : sound_body.sl.dma0_6 m c = rows 3 (xAt m c) := by unfold sound_body.sl.dma0_6; exact read_x 3 rfl _ _ _
  have cd3 : sound_body.sl.dma0_7 m c = rows 3 (dyAt m c) := by unfold sound_body.sl.dma0_7; exact read_dy 3 rfl _ _ _
  -- so the eight loads read them
  have x0 : sound_body.sl.v57 m c = rows 0 (xAt m c) := by
    unfold sound_body.sl.v57; exact readCov_rows _ _ 0 cx0 cx1 cx2 cx3 _ _ _ _ rfl _
  have d0 : sound_body.sl.v58 m c = rows 0 (dyAt m c) := by
    unfold sound_body.sl.v58; exact readCov_rows _ _ 0 cd0 cd1 cd2 cd3 _ _ _ _ rfl _
  have x1 : sound_body.sl.v86 m c = rows 1 (xAt m c) := by
    unfold sound_body.sl.v86; exact readCov_rows _ _ 1 cx0 cx1 cx2 cx3 _ _ _ _ rfl _
  have d1 : sound_body.sl.v87 m c = rows 1 (dyAt m c) := by
    unfold sound_body.sl.v87; exact readCov_rows _ _ 1 cd0 cd1 cd2 cd3 _ _ _ _ rfl _
  have x2 : sound_body.sl.v117 m c = rows 2 (xAt m c) := by
    unfold sound_body.sl.v117; exact readCov_rows _ _ 2 cx0 cx1 cx2 cx3 _ _ _ _ rfl _
  have d2 : sound_body.sl.v118 m c = rows 2 (dyAt m c) := by
    unfold sound_body.sl.v118; exact readCov_rows _ _ 2 cd0 cd1 cd2 cd3 _ _ _ _ rfl _
  have x3 : sound_body.sl.v148 m c = rows 3 (xAt m c) := by
    unfold sound_body.sl.v148; exact readCov_rows _ _ 3 cx0 cx1 cx2 cx3 _ _ _ _ rfl _
  have d3 : sound_body.sl.v149 m c = rows 3 (dyAt m c) := by
    unfold sound_body.sl.v149; exact readCov_rows _ _ 3 cd0 cd1 cd2 cd3 _ _ _ _ rfl _
  -- so the two rows stored are the partial result's
  have hg : k0_pay9 (sound_body.sl.r_4 m c) (sound_body.sl.v148 m c) (sound_body.sl.v149 m c) (sound_body.sl.r_6 m c) = gRow (xAt m c) (dyAt m c) := by
    unfold sound_body.sl.r_4 sound_body.sl.r_2 sound_body.sl.r sound_body.sl.r_6
    rw [x0, d0, x1, d1, x2, d2, x3, d3]; rfl
  have hb : k0_pay10 (sound_body.sl.r_5 m c) (sound_body.sl.v149 m c) = bRow (dyAt m c) := by
    unfold sound_body.sl.r_5 sound_body.sl.r_3 sound_body.sl.r_1
    rw [d0, d1, d2, d3]; rfl
  have hp := (writes_two_rows fp (k0_pay9 (sound_body.sl.r_4 m c) (sound_body.sl.v148 m c) (sound_body.sl.v149 m c) (sound_body.sl.r_6 m c))
    (k0_pay10 (sound_body.sl.r_5 m c) (sound_body.sl.v149 m c))).trans
    (show _ = part m c by rw [hg, hb]; rfl)
  rw [hp]
  have hwb := mayWait_bar (F := F) c
  sl_exec
  -- the copy to the partner
  unfold barPay
  icases HatB_pay1 with ⟨⟨%fn, HlandP⟩, -⟩
  ihave Hpart' := (Entails.of_eq (partPts_eq c (part m c)).symm) $$ Hpart
  iapply (wp_exchange m K c fn _) $$ [Hpart' HlandP HO HtS HtVP]
  · isplitr; · iexact HIsnd
    isplitr; · iexact HIrcvP
    isplitl [Hpart']; · iexact Hpart'
    isplitl [HlandP]; · iexact HlandP
    isplitl [HO]; · iexact HO
    isplitl [HtS]; · iexact HtS
    isplitr; · iexact HrS
    isplitl [HtVP]; · iexact HtVP
    iexact HrVP
  iintro ⟨HcS, HO⟩
  -- its two waits: the partial buffer back, the partner's partial result in the landing buffer
  sl_exec
  ihave Hpart := (Entails.of_eq (partPts_eq c (part m c))) $$ HatS_pay1
  ihave Hpart := (show (((c : Thread nD τ).loc cc0_scratch2 ↦{fullShare} part m c) : sProp 𝕄) ⊢ (partM.view.loc (c : Thread nD τ) ↦{fullShare} part m c) from .rfl) $$ Hpart
  ihave Hland := (Entails.of_eq (landPts_eq c (landed m c))) $$ HatV_pay1
  ihave Hland := (show (((c : Thread nD τ).loc cc0_scratch3 ↦{fullShare} landed m c) : sProp 𝕄) ⊢ (landM.view.loc (c : Thread nD τ) ↦{fullShare} landed m c) from .rfl) $$ Hland
  -- the three cells close
  imod (Rounds.cell_close EX (sched m) (Set.mem_univ (K (c, 1))) (fun h => h) (R := 0 + 1) (duties_later m (sendCell c))) $$ [HatS] with HzS
  · isplitr; · iexact HIsnd
    iexact HatS
  imod (Rounds.cell_close EX (sched m) (Set.mem_univ (K (c, 2))) (fun h => h) (R := 0 + 1) (duties_later m (recvCell c))) $$ [HatV] with HzV
  · isplitr; · iexact HIrcv
    iexact HatV
  imod (Rounds.cell_close EX (sched m) (Set.mem_univ (K (c, 0))) (fun h => h) (R := 0 + 1) (duties_later m (barCell c))) $$ [HatB] with HzB
  · isplitr; · iexact HIbar
    iexact HatB
  -- the two partial results added
  iapply (wp_load 𝒱₀ (c : Thread nD τ) none Set.univ (m := partM) (Finset.subset_univ _)) $$ Hpart; iintro Hpart
  rw [read_part]
  iapply (wp_load 𝒱₀ (c : Thread nD τ) none Set.univ (m := landM) (Finset.subset_univ _)) $$ Hland; iintro Hland
  rw [read_land]
  iapply (wp_load 𝒱₀ (c : Thread nD τ) none Set.univ (m := outM) (Finset.subset_univ _)) $$ Hout; iintro Hout
  iapply (wp_store 𝒱₀ (c : Thread nD τ) none Set.univ (m := outM) (r := Rect.unit ![0, 0] S2x512.size inb_S2x512_S2x512_0_0) (Mk := Finset.univ)
    (Finset.subset_univ _)) $$ Hout; iintro Hout
  rw [write_out]
  simp only [Prog.bind, wp_pure]
  imodintro
  iapply Hk
  unfold bodyPost Φ₁ args copySems scratch Dat.owesAt Pipeline.owesWithin
  rw [show (dats m 0 c).owed t0_0.succ = 0 from rfl]
  isplitl [Hx Hdy Hga HzB Hz1 Hz2 Hz3 Hz4 Hz5 Hz6 Hz7 Hz8 HzS HzV Hsx Hsd Hpart Hland]
  · isplitl [Hx Hdy Hga]
    · isplitl [Hx]; · iexact Hx
      isplitl [Hdy]; · iexact Hdy
      iexact Hga
    isplitl [HzB]; · iexact HzB
    isplitl [Hz1 Hz2 Hz3 Hz4 Hz5 Hz6 Hz7 Hz8 HzS HzV]
    · isplitl [Hz1 Hz2 Hz3 Hz4 Hz5 Hz6 Hz7 Hz8]
      · isplitl [Hz1]; · iexact Hz1
        isplitl [Hz2]; · iexact Hz2
        isplitl [Hz3]; · iexact Hz3
        isplitl [Hz4]; · iexact Hz4
        isplitl [Hz5]; · iexact Hz5
        isplitl [Hz6]; · iexact Hz6
        isplitl [Hz7]; · iexact Hz7
        iexact Hz8
      isplitl [HzS]; · iexact HzS
      iexact HzV
    isplitl [Hsx]; · iexists _; iexact Hsx
    isplitl [Hsd]; · iexists _; iexact Hsd
    isplitl [Hpart]; · iexists _; iexact Hpart
    iexists _; iexact Hland
  isplitl [HO]
  · iexists _
    isplitr; rotate_left; · iexact HO
    ipureintro; exact fun _ _ => Or.inl trivial
  iexists _; isplitr; · (ipureintro; rfl)
  iexact Hout

end Body

/-- The state before the body, the names still to be chosen. -/
def bodyPre' (c : Dev nD) : sProp 𝕄 :=
  iprop(Φ₀ m c ∗ (dats m 0 c).owesAt () t0_0.castSucc ∗ (∃ d, heldAt c cc0_stg0_0 ((dats m 0 c).before (0 : Fin 1) t0_0 d)))

set_option maxRecDepth 4000 in
/-- The obligation of the launch on the body of core `c`. -/
theorem body_obligation (c : Dev nD) : BodyObligation (dats (F := F) m 0 c) (defs₀ (F := F)) 𝒱₀ () Set.univ := fun t => by
  rw [fin_N0 t]
  rw [bigSep_W0, bigSep_W0]
  simp only [owns_whole]
  show bodyPre' m c ⊢ wp frame (wpE (defs₀ (F := F)) 𝒱₀ c none) Set.univ
    (cc0_body (Memref.whole main_arg0) (Memref.isWhole_whole _) (Memref.whole main_arg1) (Memref.isWhole_whole _)
      (Memref.whole cc0_stg0_0) (Memref.isWhole_whole _) (Memref.whole cc0_scratch0) (Memref.isWhole_whole _)
      (Memref.whole cc0_scratch1) (Memref.isWhole_whole _) (Memref.whole cc0_scratch2) (Memref.isWhole_whole _)
      (Memref.whole cc0_scratch3) (Memref.isWhole_whole _) cc0_scratch4 cc0_scratch5 cc0_scratch6) (fun _ => bodyPost m c)
  unfold bodyPre' Φ₀ start
  iintro ⟨⟨⟨⟨%K, Hg⟩, Hrest⟩, Hsem, Hscr⟩, Ho, Hout⟩
  iapply (sound_body m K c fun _ => bodyPost m c)
  unfold bodyPre
  isplitr []
  · isplitl [Hg Hrest]
    · isplitl [Hg]; · iexact Hg
      iexact Hrest
    isplitl [Hsem]; · iexact Hsem
    isplitl [Hscr]; · iexact Hscr
    isplitl [Ho] <;> iassumption
  · iintro H; iexact H

end Cert.KernelIdeal.Exchange

end
-- ==== Proof.Run.lean ====
/-
The launch: from any memory with zero counters, all thirty-two devices run the body to the end. Their cells' invariants
are made for every device at once (a device signals and copies into its partner's cells), each duty's token is dealt to
the device that pays it, and each device's credit is what its partner owes it.

The run's result, over any float values: the arguments unchanged, the result array the sum of the two partial results,
every semaphore counter zero.
-/
module

public import proofs.«01_k».proof.Proof.Body
public import Idealize.ShloMosaic.Lib.Pipeline.CollectiveSegs
public import Idealize.ShloMosaic.Lib.Pipeline.Value
public import Idealize.ShloMosaic.Lib.Quiescent

@[expose] public section

noncomputable section

namespace Cert.KernelIdeal.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation cellOf)

variable {F : FTy → Type} [FloatOps F]

local notation "𝕄" => MT nD τ sig Unit (Elt F) ℕ UX ℕ

variable (m : (ℓ : Loc nD τ sig) → Buf (Elt F) ℓ) (ρ : Dev nD → PrngReg)

/-! ## The launch element -/

/-- The kernel's own semaphores: the exchange's send and receive, the eight of the copies. -/
abbrev osem : Fin 10 → SemLoc sig := fun
  | 0 => .dma sendS | 1 => .dma recvS | 2 => .dma 1 | 3 => .dma 2 | 4 => .dma 3 | 5 => .dma 4 | 6 => .dma 5 | 7 => .dma 6 | 8 => .dma 7 | 9 => .dma 8

theorem ownSemFacts : Pipeline.OwnSemFacts cfg0.spec osem := by decide

theorem share_eq (c : Dev nD) (w : Fin cfg0.W) : (dats m 0 c).share w = fullShare := by unfold Dat.share; split <;> rfl

/-- No two cells of the exchange are one. -/
theorem xcell_injective : Function.Injective (xcell : Dev nD × Fin 3 → GSem nD τ sig) := by
  rintro ⟨c, k⟩ ⟨c', k'⟩ h
  have h1 : c = c' := congrArg (fun g : GSem nD τ sig => g.1.1) h
  subst h1
  have h2 : xsem k = xsem k' := congrArg Prod.snd h
  have : k = k' := by fin_cases k <;> fin_cases k' <;> first | rfl | exact absurd h2 (by decide)
  subst this; rfl

/-- The cells of the exchange, all devices. -/
def xCells : Finset (GSem nD τ sig) := Finset.univ.map ⟨xcell, xcell_injective⟩

/-- A cell's one duty token. -/
abbrev tokOf (ck : Dev nD × Fin 3) : GSem nD τ sig × ℕ × Unit := (xcell ck, 0, ())
theorem tokOf_injective : Function.Injective tokOf := fun _ _ h => xcell_injective (congrArg Prod.fst h)
def xToks : Finset (GSem nD τ sig × ℕ × Unit) := Finset.univ.map ⟨tokOf, tokOf_injective⟩

def u₀ : UX :=
  (initOf (Pipeline.cells cfgs cellOf_inj) (Pipeline.launchToks cfgs cellOf_inj), (initOf xCells xToks, 1))

omit [FloatOps F] in
/-- The launch element splits into the staging pipeline's and the exchange's. -/
theorem launch_split (a : UR sig nD τ) (b : XR) : (ownU ((a, (b, 1)) : UX) : sProp 𝕄) ⊢ iprop(BI.own (EPipe a) ∗ BI.own (EX b)) :=
  ownU_pair a (b, (1 : Counters))

/-- The tokens of device `c`'s own cells. -/
def toks (c : Dev nD) : sProp 𝕄 := iprop(dutyTok EX (barCell c) 0 () ∗ dutyTok EX (sendCell c) 0 () ∗ dutyTok EX (recvCell c) 0 ())

/-- What the launch element deals device `c`: its cells at round 0, its positions, its cells' tokens. -/
def G (c : Dev nD) : sProp 𝕄 :=
  iprop((bigSep Finset.univ fun k : Fin 3 => roundState EX (sched m) (xcell (c, k)) 0)
    ∗ (bigSep Finset.univ fun k : Fin 3 => iprop(atPos EX (xcell (c, k)) 0 ∅ 0 ∗ reached EX (xcell (c, k)) 0)) ∗ toks c)

/-- What the global step makes of it. -/
def G' (c : Dev nD) : sProp 𝕄 := iprop((∃ K, ghost m K c) ∗ copySems c)

omit [FloatOps F] in
theorem bigSep_fin3 (Φ : Fin 3 → sProp 𝕄) : bigSep Finset.univ Φ = iprop(Φ 0 ∗ Φ 1 ∗ Φ 2) :=
  bigSep_univ_eq_bigSepL [0, 1, 2] (by decide) (by decide) Φ

theorem fund : BI.own (EX (initOf xCells xToks)) ⊢ (|==> bigSep Finset.univ (G m) : sProp 𝕄) := by
  have hX (Φ : GSem nD τ sig → sProp 𝕄) : bigSep xCells Φ = bigSep Finset.univ fun c : Dev nD => bigSep Finset.univ fun k : Fin 3 => Φ (xcell (c, k)) := by
    unfold xCells; rw [bigSep_map, bigSep_univ_prod]; rfl
  have hT : bigSep xToks (fun x => (dutyTok EX x.1 x.2.1 x.2.2 : sProp 𝕄)) = bigSep Finset.univ fun c : Dev nD => toks c := by
    unfold xToks; rw [bigSep_map, bigSep_univ_prod]
    exact bigSep_congr fun c _ => by unfold toks; rw [bigSep_fin3]; rfl
  iintro HX
  imod (Rounds.fund EX (sched m) xCells xToks) $$ HX with ⟨Hst, Hr, Hat, Htok⟩
  imodintro
  ihave Hst' := (Entails.of_eq (hX fun g => roundState EX (sched m) g 0)) $$ Hst
  ihave Hat' := (Entails.of_eq (hX fun g => atPos EX g 0 ∅ 0)) $$ Hat
  ihave Hr' := (Entails.of_eq (hX fun g => reached EX g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The semaphores -/

omit [FloatOps F] in
/-- The kernel's own semaphores at zero, one by one; -/
theorem ownSems0_eq (c : Dev nD) : (Pipeline.ownSems0 (Ix := Unit) (Name := ℕ) (U := UX) (Lvl := ℕ) (Val := Elt F) (τ := τ) osem c : sProp 𝕄)
    = iprop(semVal (sendCell c) 0 ∗ semVal (recvCell c) 0 ∗ copySems c) := by
  rw [Pipeline.ownSems0_eq_of_list c osem [0, 1, 2, 3, 4, 5, 6, 7, 8, 9] (by decide) (by decide)]; rfl
omit [FloatOps F] in
/-- the barrier semaphore is the launch's one semaphore that outlives it. -/
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem sems0_eq (c : Dev nD) :
    iprop(Pipeline.ownSems0 (Ix := Unit) (Name := ℕ) (U := UX) (Lvl := ℕ) (Val := Elt F) (τ := τ) osem c ∗ unscopedSems0 c)
      ⊢ (iprop((bigSep Finset.univ fun k : Fin 3 => semVal (xcell (c, k)) 0) ∗ copySems c) : sProp 𝕄) := by
  rw [ownSems0_eq, unscopedSems0_eq, bigSep_fin3]
  iintro ⟨⟨HS, HV, HC⟩, HB⟩
  isplitr [HC]
  · isplitl [HB]; · iexact HB
    isplitl [HS] <;> iassumption
  iexact HC

/-! ## The global step -/

/-- Device `c`'s cells become invariants. -/
theorem core_alloc (c : Dev nD) :
    iprop(Pipeline.ownSems0 (Ix := Unit) (Name := ℕ) (U := UX) (Lvl := ℕ) (Val := Elt F) (τ := τ) osem c ∗ unscopedSems0 c ∗ G m c)
      ⊢ |={Set.univ}=> iprop((bigSep Finset.univ fun k => iprop(∃ κ : ℕ, cellInv EX (sched m) κ (xcell (c, k))))
          ∗ (bigSep Finset.univ fun k => iprop(atPos EX (xcell (c, k)) 0 ∅ 0 ∗ reached EX (xcell (c, k)) 0)) ∗ toks c ∗ copySems c) := by
  unfold G
  iintro ⟨Hos, Hus, Hst, Hat, Htok⟩
  ihave Hv := (sems0_eq (F := F) c) $$ [Hos Hus]
  · isplitl [Hos] <;> iassumption
  icases Hv with ⟨Hv, HC⟩
  imod (show iprop((bigSep Finset.univ fun k : Fin 3 => semVal (xcell (c, k)) 0) ∗ bigSep Finset.univ fun k : Fin 3 => roundState EX (sched m) (xcell (c, k)) 0)
      ⊢ (|={Set.univ}=> bigSep Finset.univ fun k => iprop(∃ κ : ℕ, cellInv EX (sched m) κ (xcell (c, k))) : sProp 𝕄) from by
        rw [← bigSep_sep']
        exact (bigSep_mono fun k _ => (Rounds.body_intro EX (sched m) (xcell (c, k))).trans inv_alloc).trans (bigSep_fupd _ _)) $$ [Hv Hst] with Hinv
  · isplitl [Hv] <;> iassumption
  imodintro
  isplitl [Hinv]; · iexact Hinv
  isplitl [Hat]; · iexact Hat
  isplitl [Htok] <;> iassumption

/-- Every invariant and every mark, at the names `K`. -/
def records (K : Dev nD × Fin 3 → ℕ) : sProp 𝕄 :=
  iprop((bigSep Finset.univ fun ck : Dev nD × Fin 3 => cellInv EX (sched m) (K ck) (xcell ck))
    ∗ bigSep Finset.univ fun ck : Dev nD × Fin 3 => reached EX (xcell ck) 0)

instance records_persistent (K : Dev nD × Fin 3 → ℕ) : BI.Persistent (records m K) := by unfold records; infer_instance

theorem inv_at (K : Dev nD × Fin 3 → ℕ) (ck : Dev nD × Fin 3) :
    (bigSep Finset.univ fun ck : Dev nD × Fin 3 => (cellInv EX (sched m) (K ck) (xcell ck) : sProp 𝕄)) ⊢ cellInv EX (sched m) (K ck) (xcell ck) :=
  bigSep_elim (Finset.mem_univ ck)
omit [FloatOps F] in
theorem reached_at (ck : Dev nD × Fin 3) :
    (bigSep Finset.univ fun ck : Dev nD × Fin 3 => (reached EX (xcell ck) 0 : sProp 𝕄)) ⊢ reached EX (xcell ck) 0 :=
  bigSep_elim (Finset.mem_univ ck)

/-- The tokens of the duties device `c` pays. -/
def payToks (c : Dev nD) : sProp 𝕄 :=
  iprop(dutyTok EX (barCell (peer c)) 0 () ∗ dutyTok EX (sendCell c) 0 () ∗ dutyTok EX (recvCell (peer c)) 0 ())
/-- What stays with device `c`: its positions, those tokens, its copy semaphores. -/
def linear (c : Dev nD) : sProp 𝕄 :=
  iprop((atPos EX (barCell c) 0 ∅ 0 ∗ atPos EX (sendCell c) 0 ∅ 0 ∗ atPos EX (recvCell c) 0 ∅ 0) ∗ payToks c ∗ copySems c)

theorem ghost_intro (K : Dev nD × Fin 3 → ℕ) (c : Dev nD) : iprop(records m K ∗ linear c) ⊢ G' m c := by
  unfold records linear payToks G' ghost invs
  iintro ⟨⟨#HI, #HR⟩, ⟨HaB, HaS, HaV⟩, ⟨HtB, HtS, HtV⟩, HC⟩
  isplitr [HC]
  · iexists K
    isplitr
    · isplitr; · iapply (inv_at m K (c, 0)); iexact HI
      isplitr; · iapply (inv_at m K (c, 1)); iexact HI
      isplitr; · iapply (inv_at m K (c, 2)); iexact HI
      isplitr; · iapply (inv_at m K (peer c, 0)); iexact HI
      iapply (inv_at m K (peer c, 2)); iexact HI
    isplitl [HaB]; · iexact HaB
    isplitl [HaS]; · iexact HaS
    isplitl [HaV]; · iexact HaV
    isplitr; · iapply (reached_at (F := F) (peer c, 0)); iexact HR
    isplitr; · iapply (reached_at (F := F) (peer c, 2)); iexact HR
    isplitr; · iapply (reached_at (F := F) (c, 1)); iexact HR
    isplitr; · iapply (reached_at (F := F) (c, 2)); iexact HR
    isplitl [HtB]; · iexact HtB
    isplitl [HtV]; · iexact HtV
    iexact HtS
  iexact HC

omit [FloatOps F] in
/-- The tokens of the barrier and receive cells cross to the partner. -/
theorem toks_across : (bigSep Finset.univ fun c : Dev nD => (toks c : sProp 𝕄)) ⊢ bigSep Finset.univ fun c : Dev nD => payToks c := by
  unfold toks payToks
  rw [bigSep_sep', bigSep_sep', bigSep_sep', bigSep_sep',
    bigSep_univ_equiv swap (fun c : Dev nD => (dutyTok EX (barCell c) 0 () : sProp 𝕄)),
    bigSep_univ_equiv swap (fun c : Dev nD => (dutyTok EX (recvCell c) 0 () : sProp 𝕄))]
  exact .rfl

omit [FloatOps F] in
theorem with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- Names chosen for every cell, and what every device needs of the others dealt to it. -/
theorem regroup :
    (bigSep Finset.univ fun c : Dev nD => iprop((bigSep Finset.univ fun k => iprop(∃ κ : ℕ, cellInv EX (sched m) κ (xcell (c, k))))
          ∗ (bigSep Finset.univ fun k => iprop(atPos EX (xcell (c, k)) 0 ∅ 0 ∗ reached EX (xcell (c, k)) 0)) ∗ toks c ∗ copySems c) : sProp 𝕄)
      ⊢ bigSep Finset.univ (G' m) := by
  rw [bigSep_sep', bigSep_sep', bigSep_sep', ← bigSep_univ_prod (fun ck : Dev nD × Fin 3 => iprop(∃ κ : ℕ, cellInv EX (sched m) κ (xcell ck))),
    bigSep_congr (s := Finset.univ) (fun (c : Dev nD) _ => bigSep_sep' Finset.univ (fun k : Fin 3 => (atPos EX (xcell (c, k)) 0 ∅ 0 : sProp 𝕄)) (fun k => reached EX (xcell (c, k)) 0)),
    bigSep_sep', ← bigSep_univ_prod (fun ck : Dev nD × Fin 3 => (reached EX (xcell ck) 0 : sProp 𝕄))]
  iintro ⟨HI, ⟨Hat, #HR⟩, Htok, HC⟩
  ihave HK := (BI.bigSep_exists_pi Finset.univ (fun (ck : Dev nD × Fin 3) (κ : ℕ) => (cellInv EX (sched m) κ (xcell ck) : sProp 𝕄))) $$ HI
  icases HK with ⟨%K, #HI⟩
  ihave Htk := (toks_across (F := F)) $$ Htok
  iapply (with_persistent (R := records m K) fun c _ => ghost_intro m K c)
  isplitr
  · unfold records; isplitl; · iexact HI
    iexact HR
  · iapply ((Entails.of_eq (bigSep_sep' Finset.univ (fun c : Dev nD => bigSep Finset.univ fun k : Fin 3 => (atPos EX (xcell (c, k)) 0 ∅ 0 : sProp 𝕄))
        (fun c => iprop(payToks c ∗ copySems c))).symm).trans
      (bigSep_mono fun c _ => show _ ⊢ linear c from Entails.of_eq (by unfold linear; rw [bigSep_fin3])))
    rw [bigSep_sep']
    isplitl [Hat]; · iexact Hat
    isplitl [Htk] <;> iassumption

theorem glob : (bigSep Finset.univ fun c => iprop(Pipeline.ownSems0 (Ix := Unit) (Name := ℕ) (U := UX) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The credit -/

theorem bar_eq_iff {a b : Dev nD} : Iff (barCell a = barCell b) (a = b) :=
  ⟨fun h => Fin.ext (congrArg (fun g : GSem nD τ sig => g.1.1.val) h), fun h => h ▸ rfl⟩
theorem recv_eq_iff {a b : Dev nD} : Iff (recvCell a = recvCell b) (a = b) :=
  ⟨fun h => Fin.ext (congrArg (fun g : GSem nD τ sig => g.1.1.val) h), fun h => h ▸ rfl⟩

/-- What device `d` owes device `c`'s barrier cell: a unit if they are partners; -/
theorem owed_bar (d c : Dev nD) : owed₀ d (barCell c) () = if d = peer c then 1 else 0 := by
  unfold owed₀ owedCopy
  rw [Pi.add_apply, Finsupp.add_apply, tallyAt_ne_cell (fun h => recv_ne_bar (congrArg Prod.snd h).symm), tallyAt_apply, Finsupp.zero_apply, Nat.zero_add]
  by_cases h : d = peer c
  · subst h; rw [peer_peer, if_pos ⟨rfl, rfl⟩, if_pos rfl]
  · rw [if_neg (fun ⟨h1, _⟩ => h (by rw [bar_eq_iff.mp h1, peer_peer])), if_neg h]

/-- what it owes device `c`'s receive cell: the copy's amount if they are. -/
theorem owed_recv (d c : Dev nD) : owed₀ d (recvCell c) () = if d = peer c then amt else 0 := by
  unfold owed₀ owedCopy
  rw [Pi.add_apply, Finsupp.add_apply, tallyAt_ne_cell (g := barCell (peer d)) (fun h => recv_ne_bar (congrArg Prod.snd h)), tallyAt_apply, Finsupp.zero_apply, Nat.add_zero]
  by_cases h : d = peer c
  · subst h; rw [peer_peer, if_pos ⟨rfl, rfl⟩, if_pos rfl]
  · rw [if_neg (fun ⟨h1, _⟩ => h (by rw [recv_eq_iff.mp h1, peer_peer])), if_neg h]

theorem launch_bar (c : Dev nD) :
    tallyOn (barCell c) (launchCredit (Pipeline.owing owed₀) 0 (barCell c)) = (tallyAt (barCell c) () 1 : CellTallies nD τ sig Unit) := by
  unfold tallyAt; refine congrArg _ (Finsupp.ext fun u => ?_); cases u
  rw [Pipeline.launchCredit_owing, Finsupp.single_eq_same, Finset.sum_congr rfl fun d _ => owed_bar d c,
    Finset.sum_ite_eq' Finset.univ (peer c) fun _ => 1, if_pos (Finset.mem_univ _)]

theorem launch_recv (c : Dev nD) :
    tallyOn (recvCell c) (launchCredit (Pipeline.owing owed₀) 0 (recvCell c)) = (tallyAt (recvCell c) () amt : CellTallies nD τ sig Unit) := by
  unfold tallyAt; refine congrArg _ (Finsupp.ext fun u => ?_); cases u
  rw [Pipeline.launchCredit_owing, Finsupp.single_eq_same, Finset.sum_congr rfl fun d _ => owed_recv d c,
    Finset.sum_ite_eq' Finset.univ (peer c) fun _ => amt, if_pos (Finset.mem_univ _)]

omit [FloatOps F] in
theorem creds (c : Dev nD) :
    (Pipeline.launchCred owed₀ c : sProp 𝕄) ⊢ iprop(cred (tallyAt (barCell c) () 1) ∗ cred (tallyAt (recvCell c) () amt)) := by
  unfold Pipeline.launchCred
  rw [bigSep_univ_at _ (SemLoc.reg barS), launch_bar]
  refine sep_mono_right ?_
  rw [← launch_recv]
  exact bigSep_elim (Finset.mem_erase.mpr ⟨recv_ne_bar, Finset.mem_univ _⟩)

/-! ## Into the body and out of it -/

theorem start_intro (c : Dev nD) :
    iprop(Pipeline.unscopedRestP Pipeline.Prefetch.none cfg0.spec c (fun b => m ((c : Thread nD τ).loc b)) ∗ levAts L lv
        ∗ Pipeline.launchCred owed₀ c ∗ prngReg c (ρ c) ∗ G' m c)
      ⊢ |={Set.univ}=> iprop((start m c ∗ copySems c) ∗ emp) := by
  rw [Pipeline.unscopedRestP_none, unscopedRest0_eq]
  iintro ⟨Hargs, Hlev, Hcr, -, HG⟩
  ihave Hc := (creds (F := F) c) $$ Hcr
  icases Hc with ⟨H1, HN⟩
  imodintro
  unfold start G' args
  icases HG with ⟨HG, HC⟩
  isplitl
  · isplitr [HC]
    · isplitl [HG]; · iexact HG
      isplitl [H1]; · iexact H1
      isplitl [HN]; · iexact HN
      isplitl [Hlev]; · iexact Hlev
      iexact Hargs
    iexact HC
  · iempintro

theorem phi0_intro (c : Dev nD) :
    iprop((start m c ∗ copySems c) ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ scratch
  iintro ⟨⟨Hs, HC⟩, -, Hr⟩
  isplitl [Hs]; · iexact Hs
  isplitl [HC]; · iexact HC
  iexact Hr

theorem phi1_exit (c : Dev nD) :
    (dats m 0 c).Φ (Fin.last cfg0.N) ⊢ iprop((args m c ∗ unscopedSems0 c) ∗ Pipeline.ownSems0 osem c ∗ Pipeline.scopedRest cfg0.spec c) := by
  rw [show (dats m 0 c).Φ (Fin.last cfg0.N) = Φ₁ m c from rfl, scopedRest0_eq, ownSems0_eq, unscopedSems0_eq]
  unfold Φ₁ scratch
  iintro ⟨Ha, HzB, ⟨HC, HzS, HzV⟩, Hr⟩
  isplitl [Ha HzB]
  · isplitl [Ha] <;> iassumption
  isplitl [HC HzS HzV]
  · isplitl [HzS]; · iexact HzS
    isplitl [HzV] <;> iassumption
  iexact Hr

theorem waits (c : Dev nD) : (levAts L lv : sProp 𝕄) ⊢ Pipeline.cellsWaits cfgs (dats m) () 0 c :=
  Pipeline.cellsWaits_intro cfgs (dats m) () 0 c fun w s t => by
    rcases t with ⟨_ | _, ht⟩
    · exact mayWait_low₀ c _ (by fin_cases w <;> fin_cases s <;> decide)
    · rw [show (dats m 0 c).owed ⟨_ + 1, ht⟩ = 0 from rfl, MayWait_zero]; iintro -; iempintro

/-! ## The run -/

/-- What is read of device `c` when it has returned: its arguments unchanged, its barrier counter zero. -/
def Read (c : Dev nD) (s : MemSt nD τ sig (Elt F)) : Prop :=
  (s.mem ((c : Thread nD τ).loc main_arg0) = m ((c : Thread nD τ).loc main_arg0)
    ∧ s.mem ((c : Thread nD τ).loc main_arg1) = m ((c : Thread nD τ).loc main_arg1)
    ∧ s.mem ((c : Thread nD τ).loc main_arg2) = m ((c : Thread nD τ).loc main_arg2))
  ∧ ∀ sm : SemLoc sig, sm.isScoped .tc = false → s.sem ((c.tc : Thread nD τ), sm) = 0

omit [FloatOps F] in
/-- A buffer held whole is what memory holds. -/
theorem read_whole (s' : Phys nD τ sig (Elt F)) (ℓ : Loc nD τ sig) (f : Buf (Elt F) ℓ) :
    iprop(SI s' ∗ (ℓ ↦{fullShare} f)) ⊢ (⌜s'.mem.mem ℓ = f⌝ : sProp 𝕄) :=
  SI_pointsTo_agree.trans (BI.pure_mono fun h => funext fun i => h i (Finset.mem_univ i))

theorem read_out (c : Dev nD) (s' : Phys nD τ sig (Elt F)) :
    iprop((args m c ∗ unscopedSems0 c) ∗ emp ∗ SI s') ⊢ |={Set.univ}=> (iprop(⌜Read m c s'.mem⌝ ∗ SI s') : sProp 𝕄) := by
  unfold args
  iintro ⟨⟨⟨Hx, Hd, Hg⟩, Hu⟩, -, HSI⟩
  ihave %hx := (read_whole s' ((c : Thread nD τ).loc main_arg0) (m ((c : Thread nD τ).loc main_arg0))) $$ [HSI Hx]
  · isplitl [HSI] <;> iassumption
  ihave %hd := (read_whole s' ((c : Thread nD τ).loc main_arg1) (m ((c : Thread nD τ).loc main_arg1))) $$ [HSI Hd]
  · isplitl [HSI] <;> iassumption
  ihave %hg := (read_whole s' ((c : Thread nD τ).loc main_arg2) (m ((c : Thread nD τ).loc main_arg2))) $$ [HSI Hg]
  · isplitl [HSI] <;> iassumption
  imod (Pipeline.unscopedSems0_read (X := unscopedSems0 c) (c := c) fupd_intro s') $$ [Hu HSI] with ⟨%hs, HSI⟩
  · isplitl [Hu] <;> iassumption
  imodintro
  isplitr; · ipureintro; exact ⟨⟨hx, hd, hg⟩, hs⟩
  iexact HSI

/-- The window's one block is the whole result array. -/
theorem cover_out (i : S2x512.Idx) : ∃ t : Fin cfg0.N, (cfg0.win 0).flush t = true ∧ i ∈ ((cfg0.win 0).blk t).view.set := by
  refine ⟨t0_0, flush0_0 _, ?_⟩
  show i ∈ ((View.whole main_v1).slice (win0_0.rect t0_0)).set
  rw [View.set_slice_whole, Rect.mem_set_unit]
  have e : win0_0.index t0_0 0 * win0_0.size 0 = 0 ∧ win0_0.xsize (grid0.coords t0_0) 0 = 2
      ∧ win0_0.index t0_0 1 * win0_0.size 1 = 0 ∧ win0_0.xsize (grid0.coords t0_0) 1 = 512 := by decide +kernel
  intro a
  match a with
  | ⟨0, _⟩ => show win0_0.index t0_0 0 * win0_0.size 0 ≤ (i 0 : Nat) ∧ (i 0 : Nat) < win0_0.index t0_0 0 * win0_0.size 0 + win0_0.xsize (grid0.coords t0_0) 0
              rw [e.1, e.2.1]; have := idx2_lt0 i; omega
  | ⟨1, _⟩ => show win0_0.index t0_0 1 * win0_0.size 1 ≤ (i 1 : Nat) ∧ (i 1 : Nat) < win0_0.index t0_0 1 * win0_0.size 1 + win0_0.xsize (grid0.coords t0_0) 1
              rw [e.2.2.1, e.2.2.2]; have := idx2_lt1 i; omega

/-- What is written back there is the computed result. -/
theorem flushed_out (c : Dev nD) (t : Fin cfg0.N) : (dats m 0 c).flushed 0 t = ((cfg0.win 0).blk t).view.read (Elt F) (outVal m c) := by
  obtain rfl := fin_N0 t
  have ha : (dats m 0 c).after 0 t0_0 = outVal m c := by dsimp only [dats]
  unfold Pipeline.Dat.flushed
  rw [ha]
  funext i
  refine congrArg (outVal m c) (Shape.idx_ext₂ ?_ ?_)
  · show (i 0).val = 0 * 2 + 1 * (i 0).val
    omega
  · show (i 1).val = 0 * 512 + 1 * (i 1).val
    omega

/-- The result array after the run is what the body left in its staging buffer. -/
theorem arrAt_out (c : Dev nD) : (dats m 0 c).arrAt (0 : Fin 1) cfg0.N = outVal m c :=
  (dats m 0 c).arrAt_eq_of_cover 0 (outVal m c) (fun t _ => flushed_out m c t) cover_out

/-- The run's result. -/
def Done (r : PUnit × MemSt nD τ sig (Elt F)) : Prop :=
  (∀ c : Dev nD, r.2.mem ((c : Thread nD τ).loc main_v1) = outVal m c
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2))
  ∧ r.2.sem = fun _ => 0

set_option maxRecDepth 8000 in
/-- From any memory with zero counters, over any float values, every weakly fair execution of the thirty-two devices
    terminates with the arguments unchanged, each result array the sum of the two partial results, and every semaphore
    counter zero. -/
theorem run_main : θ_run defs (onTc (τ := τ) (main (F := F))) ⟨m, fun _ => 0, ρ⟩ (Done m) :=
  Pipeline.θ_run_region_owing_glob_pf (fun p => (cfgs p).toPCfg) (fun p => (cfgs p).toPCfg_adm) (dats m) () cellOf_inj (0 : Fin 1)
    winFacts0.to₀ ownSemFacts (Pipeline.PreFacts.none _) EPipe defs₀ 𝒱₀ m ρ main
    (hmain := fun _ => rfl)
    (hbody := body_obligation m) (hne := fun w => by fin_cases w; exact Nat.succ_pos _) (harr := arr_whole0) (hstage := stage_whole0) (hshare := share_eq m)
    (hdistinct := winFacts0.arr_inj)
    (O₀ := owed₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (launch_split _ _) $$ Hu
      icases H with ⟨HP, HX⟩
      imod (fund m) $$ HX with HG
      imodintro
      isplitl [HP] <;> iassumption)
    (hglob := glob m)
    (hA := fun _ _ => rfl) (hpf := fun _ k => k.elim0)
    (X := fun c => iprop(start m c ∗ copySems c)) (Y := fun c => iprop(args m c ∗ unscopedSems0 c)) (Z := fun _ => iprop(emp))
    (hX := start_intro m ρ) (hin := phi0_intro m) (hout := phi1_exit m)
    (QY := Read m)
    (hY := read_out m)
    (hQ := fun s h hs => ⟨fun c => ⟨((h c).1 (0 : Fin 1)).trans (arrAt_out m c), (h c).2.2.1⟩, sem_eq_zero hs fun c => (h c).2.2.2⟩)

end Cert.KernelIdeal.Exchange

end
-- ==== Proof.Values.lean ====
/-
What one device computes, over the extended reals: its partial result, element by element, as sums over its 512 rows.
-/
module

public import proofs.«01_k».proof.Proof.Protocol
public import Idealize.ShloMosaic.Lib.Pointwise

@[expose] public section

noncomputable section

namespace Cert.KernelIdeal.Exchange

open Cert.KernelIdeal Cert.KernelIdeal.Gen
open Idealize.ShloMosaic

/-! ## The mathematics of one row -/

/-- The row length as the programs spell it, the float 512. -/
def len : EReal := Ideal.ofBits .f32 0x44000000#32
/-- The small constant added to a variance, the float nearest 1e-5. -/
def eps : EReal := Ideal.ofBits .f32 0x3727C5AC#32

/-- The mean of a row. -/
def mean (v : Fin 512 → EReal) : EReal := Ideal.div (∑ k, v k) len
/-- The variance of a row: the mean of its squared distances from its mean. -/
def variance (v : Fin 512 → EReal) : EReal := Ideal.div (∑ k, (v k - mean v) * (v k - mean v)) len
/-- A row normalized, at position `j`. -/
def normed (v : Fin 512 → EReal) (j : Fin 512) : EReal := (v j - mean v) * Ideal.rsqrt (variance v + eps)

/-- Over an array's `n` rows, the sum at column `l` of `D` times the normalized `X`. -/
def gSum {n : Nat} (X D : (⟨2, ![n, 512]⟩ : Shape).Idx → EReal) (l : Fin 512) : EReal :=
  ∑ r : Fin n, D (ix2 r l) * normed (fun k => X (ix2 r k)) l
/-- Over an array's `n` rows, the sum at column `l` of `D`. -/
def bSum {n : Nat} (D : (⟨2, ![n, 512]⟩ : Shape).Idx → EReal) (l : Fin 512) : EReal := ∑ r : Fin n, D (ix2 r l)

/-! ## The chunks of 128 rows -/

/-- The first chunk's share of the first row: the sum over its 128 rows of `dy` times the normalized `x`. -/
theorem pay2_apply (x d : FVec Ideal S128x512 .f32) (j : S512.Idx) :
    k0_pay2 x d j = ∑ r : Fin 128, d (ix2 r (j 0)) * normed (fun k => x (ix2 r k)) (j 0) := by
  pointwise [k0_pay2, normed, variance, mean, len, eps]

/-- The first chunk's share of the second row: the sum over its 128 rows of `dy`. -/
theorem pay3_apply (d : FVec Ideal S128x512 .f32) (j : S512.Idx) :
    k0_pay3 d j = ∑ r : Fin 128, d (ix2 r (j 0)) := by
  pointwise [k0_pay3]

/-- The second chunk adds its share of the first row to the sum so far. -/
theorem pay4_apply (a : FVec Ideal S512 .f32) (x d : FVec Ideal S128x512 .f32) (j : S512.Idx) :
    k0_pay4 a x d j = a j + ∑ r : Fin 128, d (ix2 r (j 0)) * normed (fun k => x (ix2 r k)) (j 0) := by
  pointwise [k0_pay4, normed, variance, mean, len, eps]

/-- The second chunk adds its share of the second row to the sum so far. -/
theorem pay5_apply (a : FVec Ideal S512 .f32) (d : FVec Ideal S128x512 .f32) (j : S512.Idx) :
    k0_pay5 a d j = a j + ∑ r : Fin 128, d (ix2 r (j 0)) := by
  pointwise [k0_pay5]

/-- The third chunk adds its share of the first row. -/
theorem pay6_apply (a : FVec Ideal S512 .f32) (x d : FVec Ideal S128x512 .f32) (j : S512.Idx) :
    k0_pay6 a x d j = a j + ∑ r : Fin 128, d (ix2 r (j 0)) * normed (fun k => x (ix2 r k)) (j 0) := by
  pointwise [k0_pay6, normed, variance, mean, len, eps]

/-- The third chunk adds its share of the second row. -/
theorem pay7_apply (a : FVec Ideal S512 .f32) (d : FVec Ideal S128x512 .f32) (j : S512.Idx) :
    k0_pay7 a d j = a j + ∑ r : Fin 128, d (ix2 r (j 0)) := by
  pointwise [k0_pay7]

/-- The fourth chunk adds its share of the first row, and the row is complete. -/
theorem pay9_apply (a : FVec Ideal S512 .f32) (x d : FVec Ideal S128x512 .f32) (z : Fin 1) (l : Fin 512) :
    k0_pay9 a x d (k0_pay8 x) (ix2 z l) = a (ix1 l) + ∑ r : Fin 128, d (ix2 r l) * normed (fun k => x (ix2 r k)) l := by
  pointwise [k0_pay9, k0_pay8, normed, variance, mean, len, eps]

/-- The fourth chunk adds its share of the second row, and the row is complete. -/
theorem pay10_apply (a : FVec Ideal S512 .f32) (d : FVec Ideal S128x512 .f32) (z : Fin 1) (l : Fin 512) :
    k0_pay10 a d (ix2 z l) = a (ix1 l) + ∑ r : Fin 128, d (ix2 r l) := by
  pointwise [k0_pay10]

/-! ## A device's 512 rows -/

/-- A sum over 512 rows is the sum of the sums over the four chunks of 128, added from the left. -/
theorem sum_chunks (f : Fin 512 → EReal) :
    ∑ r : Fin 512, f r
      = (((∑ r : Fin 128, f ⟨128 * 0 + r.val, by omega⟩) + ∑ r : Fin 128, f ⟨128 * 1 + r.val, by omega⟩)
          + ∑ r : Fin 128, f ⟨128 * 2 + r.val, by omega⟩) + ∑ r : Fin 128, f ⟨128 * 3 + r.val, by omega⟩ := by
  have h1 := Fin.sum_univ_add (a := 384) (b := 128) f
  have h2 := Fin.sum_univ_add (a := 256) (b := 128) fun r : Fin 384 => f ⟨r.val, by omega⟩
  have h3 := Fin.sum_univ_add (a := 128) (b := 128) fun r : Fin 256 => f ⟨r.val, by omega⟩
  refine h1.trans (congrArg₂ (· + ·) (h2.trans (congrArg₂ (· + ·) (h3.trans (congrArg₂ (· + ·) ?_ ?_)) ?_)) ?_)
  all_goals
    refine Finset.sum_congr rfl fun r _ => congrArg f (Fin.ext ?_)
    simp [Fin.castAdd, Fin.natAdd]

/-- The element of chunk `k` at row `r`: the array's at row `128 * k + r`. -/
theorem rows_apply (k : Fin 4) (A : FVec Ideal S512x512 .f32) (r : Fin 128) (l : Fin 512) :
    rows k A (ix2 r l) = A (ix2 (⟨128 * k.val + r.val, by omega⟩ : Fin 512) l) := by
  unfold rows
  congr 1

/-- The first row of a device's partial result, over its 512 rows. -/
theorem gRow_apply (X D : FVec Ideal S512x512 .f32) (z : Fin 1) (l : Fin 512) : gRow X D (ix2 z l) = gSum X D l := by
  unfold gSum
  rw [sum_chunks]
  unfold gRow
  rw [pay9_apply, pay6_apply, pay4_apply, pay2_apply]
  simp only [rows_apply]
  rfl

/-- The second row of a device's partial result, over its 512 rows. -/
theorem bRow_apply (D : FVec Ideal S512x512 .f32) (z : Fin 1) (l : Fin 512) : bRow D (ix2 z l) = bSum D l := by
  unfold bSum
  rw [sum_chunks]
  unfold bRow
  rw [pay10_apply, pay7_apply, pay5_apply, pay3_apply]
  simp only [rows_apply]
  rfl

/-- What a device ends with in the first row: its own sums and its partner's. -/
theorem outVal_zero (m : (ℓ : Loc nD τ sig) → Buf (Elt Ideal) ℓ) (c : Dev nD) (l : Fin 512) :
    outVal m c (ix2 (0 : Fin 2) l) = gSum (xAt m c) (dyAt m c) l + gSum (xAt m (peer c)) (dyAt m (peer c)) l :=
  congrArg₂ (· + ·) (gRow_apply (xAt m c) (dyAt m c) 0 l) (gRow_apply (xAt m (peer c)) (dyAt m (peer c)) 0 l)

/-- What a device ends with in the second row: its own sums and its partner's. -/
theorem outVal_one (m : (ℓ : Loc nD τ sig) → Buf (Elt Ideal) ℓ) (c : Dev nD) (l : Fin 512) :
    outVal m c (ix2 (1 : Fin 2) l) = bSum (dyAt m c) l + bSum (dyAt m (peer c)) l :=
  congrArg₂ (· + ·) (bRow_apply (dyAt m c) 0 l) (bRow_apply (dyAt m (peer c)) 0 l)

end Cert.KernelIdeal.Exchange

end
-- ==== Proof.Reference.lean ====
/-
What the reference computes, over the extended reals, element by element: the sums over all 1024 rows.
-/
module

public import proofs.«01_k».proof.Proof.Values
public import proofs.«01_k».proof.Proof.Gen.ReferenceIdeal.Run

@[expose] public section

noncomputable section

namespace Cert.ReferenceIdeal.Sums

open Cert.ReferenceIdeal Cert.ReferenceIdeal.Gen
open Idealize.ShloMosaic
open Cert.KernelIdeal.Exchange (mean variance normed len eps gSum bSum)

/-! ## The constants -/

/-- The float `len` is the number 512. -/
theorem len_eq : len = ((512 : ℝ) : EReal) := by
  unfold len
  simp [Ideal.ofBits, Ideal.ieee, -EReal.coe_mul]; norm_num

/-- The float 1 is the number 1. -/
theorem one_eq : Ideal.ofBits .f32 0x3F800000#32 = 1 := by
  simp [Ideal.ofBits, Ideal.ieee, -EReal.coe_mul]; norm_num

/-- The small constant is positive. -/
theorem eps_pos : 0 < eps := by
  unfold eps
  simp [Ideal.ofBits, Ideal.ieee, -EReal.coe_mul]
  try norm_num

/-! ## The arithmetic of one row -/

/-- A square is not negative. -/
theorem sq_nonneg' (x : EReal) : 0 ≤ x * x := by
  rcases le_total 0 x with h | h
  · exact mul_nonneg h h
  · have := mul_nonneg (EReal.neg_nonneg.2 h) (EReal.neg_nonneg.2 h)
    rwa [neg_mul_neg] at this

/-- A variance is not negative. -/
theorem variance_nonneg (v : Fin 512 → EReal) : 0 ≤ variance v := by
  unfold variance
  rw [len_eq, Ideal.div_coe (by norm_num)]
  exact mul_nonneg (Finset.sum_nonneg fun k _ => sq_nonneg' _) (by exact_mod_cast (by norm_num : (0 : ℝ) ≤ 1 / 512))

/-- Of a positive number, one over the square root is the reciprocal square root. -/
theorem div_sqrt {x : EReal} (h : 0 < x) : Ideal.div 1 (Ideal.sqrt x) = Ideal.rsqrt x := by
  induction x with
  | bot => exact absurd h (by simp)
  | top => simp [Ideal.div]
  | coe r =>
    have hr : 0 < r := by exact_mod_cast h
    have hs : Real.sqrt r ≠ 0 := (Real.sqrt_pos.2 hr).ne'
    rw [Ideal.sqrt_coe, Ideal.rsqrt_coe, if_neg hr.not_gt, if_neg hr.not_gt, if_neg hr.ne', Ideal.div_coe hs, one_mul, one_div]

/-- The reference's normalized row is `normed`: the variance plus the small constant is positive. -/
theorem normed_eq (v : Fin 512 → EReal) (j : Fin 512) :
    (v j - mean v) * Ideal.div 1 (Ideal.sqrt (variance v + eps)) = normed v j := by
  rw [div_sqrt (lt_of_lt_of_le eps_pos (le_add_of_nonneg_left (variance_nonneg v)))]
  rfl

/-! ## The reference's terms -/

/-- Each row's mean, as the reference writes it. -/
def refMean (x : FVec Ideal S1024x512 .f32) : FVec Ideal S1024x1 .f32 :=
  Host.divf (broadcastInDim S1024x1 ![0] bcast_S1024_S1024x1_0 (Host.reduceAdd x (constant S_ .f32 0x00000000#32) reducesTo_S1024x512_S1024_d1 h_S_)) (broadcastInDim S1024x1 ![] bcast_S_S1024x1 (constant S_ .f32 0x44000000#32))

/-- Each element less its row's mean. -/
def refDiff (x : FVec Ideal S1024x512 .f32) : FVec Ideal S1024x512 .f32 :=
  subf x (broadcastInDim S1024x512 ![0, 1] bcast_S1024x1_S1024x512_0_1 (refMean x))

/-- The variance's divisor: the row length less no degrees of freedom. -/
def refLen : FVec Ideal S_ .f32 := subf (constant S_ .f32 0x44000000#32) (sitofp .f32 (constantI S_ 32 0#32))

/-- Each row's variance, as the reference writes it: a quotient by the divisor where that is positive. -/
def refVar (x : FVec Ideal S1024x512 .f32) : FVec Ideal S1024x1 .f32 :=
  select (broadcastInDim S1024x1 ![] bcast_S_S1024x1 (cmpf .ogt refLen (constant S_ .f32 0x00000000#32)))
    (Host.divf (broadcastInDim S1024x1 ![0] bcast_S1024_S1024x1_0 (Host.reduceAdd (mulf (refDiff x) (refDiff x)) (constant S_ .f32 0x00000000#32) reducesTo_S1024x512_S1024_d1 h_S_))
      (broadcastInDim S1024x1 ![] bcast_S_S1024x1 refLen))
    (broadcastInDim S1024x1 ![] bcast_S_S1024x1 (id (constant S_ .f32 0x7FC00000#32)))

/-- The first row of the reference's result, before it is stacked. -/
def refG (x dy : FVec Ideal S1024x512 .f32) : FVec Ideal S512 .f32 :=
  Host.reduceAdd (mulf dy (mulf (refDiff x) (broadcastInDim S1024x512 ![0, 1] bcast_S1024x1_S1024x512_0_1
      (Host.divf (broadcastInDim S1024x1 ![] bcast_S_S1024x1 (constant S_ .f32 0x3F800000#32))
        (Host.sqrt (addf (refVar x) (broadcastInDim S1024x1 ![] bcast_S_S1024x1 (constant S_ .f32 0x3727C5AC#32))))))))
    (constant S_ .f32 0x00000000#32) reducesTo_S1024x512_S512_d0 h_S_

/-- The second row of the reference's result, before it is stacked. -/
def refB (dy : FVec Ideal S1024x512 .f32) : FVec Ideal S512 .f32 :=
  Host.reduceAdd dy (constant S_ .f32 0x00000000#32) reducesTo_S1024x512_S512_d0 h_S_

/-- The reference's result: the two rows stacked. -/
def refOut (x dy : FVec Ideal S1024x512 .f32) : FVec Ideal S2x512 .f32 :=
  concatenate S2x512 0 [⟨S1x512, broadcastInDim S1x512 ![1] bcast_S512_S1x512_1 (refG x dy)⟩,
    ⟨S1x512, broadcastInDim S1x512 ![1] bcast_S512_S1x512_1 (refB dy)⟩] concatenates_S1x512_S1x512_S2x512_d0

/-! ## The terms, element by element -/

/-- The mean of a row. -/
theorem refMean_apply (x : FVec Ideal S1024x512 .f32) (r : Fin 1024) (z : Fin 1) :
    refMean x (ix2 r z) = mean fun k => x (ix2 r k) := by
  pointwise [refMean, mean, len]

/-- An element less its row's mean. -/
theorem refDiff_apply (x : FVec Ideal S1024x512 .f32) (r : Fin 1024) (l : Fin 512) :
    refDiff x (ix2 r l) = x (ix2 r l) - mean fun k => x (ix2 r k) := by
  pointwise [refDiff, refMean_apply]

/-- The divisor is the row length: it is 512 less 0. -/
theorem refLen_apply (i : S_.Idx) : refLen i = len := by
  pointwise [refLen]
  show len - (((0#32 : BitVec 32).toInt : ℝ) : EReal) = len
  simp

/-- The variance of a row: the divisor is positive, so the quotient is chosen. -/
theorem refVar_apply (x : FVec Ideal S1024x512 .f32) (r : Fin 1024) (z : Fin 1) :
    refVar x (ix2 r z) = variance fun k => x (ix2 r k) := by
  have h : 0 < len := by rw [len_eq]; exact_mod_cast (by norm_num : (0 : ℝ) < 512)
  pointwise [refVar, refDiff_apply, refLen_apply, variance]
  rw [if_pos h]

/-- The first row is the sum over all rows of `dy` times the normalized `x`. -/
theorem refG_apply (x dy : FVec Ideal S1024x512 .f32) (l : Fin 512) : refG x dy (ix1 l) = gSum x dy l := by
  unfold gSum
  pointwise [refG, refDiff_apply, refVar_apply, one_eq]
  exact Finset.sum_congr rfl fun r _ => congrArg (dy (ix2 r l) * ·) (normed_eq (fun k => x (ix2 r k)) l)

/-- The second row is the sum over all rows of `dy`. -/
theorem refB_apply (dy : FVec Ideal S1024x512 .f32) (l : Fin 512) : refB dy (ix1 l) = bSum dy l := by
  unfold bSum
  pointwise [refB]

/-- The first row of the stacked result. -/
theorem refOut_zero (x dy : FVec Ideal S1024x512 .f32) (l : Fin 512) : refOut x dy (ix2 (0 : Fin 2) l) = gSum x dy l := by
  pointwise [refOut, refG_apply]

/-- The second row of the stacked result. -/
theorem refOut_one (x dy : FVec Ideal S1024x512 .f32) (l : Fin 512) : refOut x dy (ix2 (1 : Fin 2) l) = bSum dy l := by
  pointwise [refOut, refB_apply]

/-- The run's term is `refOut` of the arguments. -/
theorem term_eq (x dy : FVec Ideal S1024x512 .f32) :
    concatenate S2x512 0 [⟨S1x512, (broadcastInDim S1x512 ![1] bcast_S512_S1x512_1 (Host.reduceAdd (mulf dy (mulf (subf x (broadcastInDim S1024x512 ![0, 1] bcast_S1024x1_S1024x512_0_1 (Host.divf (broadcastInDim S1024x1 ![0] bcast_S1024_S1024x1_0 (Host.reduceAdd x (constant S_ .f32 0x00000000#32) reducesTo_S1024x512_S1024_d1 h_S_)) (broadcastInDim S1024x1 ![] bcast_S_S1024x1 (constant S_ .f32 0x44000000#32))))) (broadcastInDim S1024x512 ![0, 1] bcast_S1024x1_S1024x512_0_1 (Host.divf (broadcastInDim S1024x1 ![] bcast_S_S1024x1 (constant S_ .f32 0x3F800000#32)) (Host.sqrt (addf (select (broadcastInDim S1024x1 ![] bcast_S_S1024x1 (cmpf .ogt (subf (constant S_ .f32 0x44000000#32) (sitofp .f32 (constantI S_ 32 0#32)) : FVec Ideal S_ .f32) (constant S_ .f32 0x00000000#32))) (Host.divf (broadcastInDim S1024x1 ![0] bcast_S1024_S1024x1_0 (Host.reduceAdd (mulf (subf x (broadcastInDim S1024x512 ![0, 1] bcast_S1024x1_S1024x512_0_1 (Host.divf (broadcastInDim S1024x1 ![0] bcast_S1024_S1024x1_0 (Host.reduceAdd x (constant S_ .f32 0x00000000#32) reducesTo_S1024x512_S1024_d1 h_S_)) (broadcastInDim S1024x1 ![] bcast_S_S1024x1 (constant S_ .f32 0x44000000#32))))) (subf x (broadcastInDim S1024x512 ![0, 1] bcast_S1024x1_S1024x512_0_1 (Host.divf (broadcastInDim S1024x1 ![0] bcast_S1024_S1024x1_0 (Host.reduceAdd x (constant S_ .f32 0x00000000#32) reducesTo_S1024x512_S1024_d1 h_S_)) (broadcastInDim S1024x1 ![] bcast_S_S1024x1 (constant S_ .f32 0x44000000#32)))))) (constant S_ .f32 0x00000000#32) reducesTo_S1024x512_S1024_d1 h_S_)) (broadcastInDim S1024x1 ![] bcast_S_S1024x1 (subf (constant S_ .f32 0x44000000#32) (sitofp .f32 (constantI S_ 32 0#32))))) (broadcastInDim S1024x1 ![] bcast_S_S1024x1 (id (constant S_ .f32 0x7FC00000#32)))) (broadcastInDim S1024x1 ![] bcast_S_S1024x1 (constant S_ .f32 0x3727C5AC#32)))))))) (constant S_ .f32 0x00000000#32) reducesTo_S1024x512_S512_d0 h_S_))⟩, ⟨S1x512, (broadcastInDim S1x512 ![1] bcast_S512_S1x512_1 (Host.reduceAdd dy (constant S_ .f32 0x00000000#32) reducesTo_S1024x512_S512_d0 h_S_))⟩] concatenates_S1x512_S1x512_S2x512_d0 = refOut x dy := by
  unfold refOut refG refB refVar refDiff refMean refLen
  rfl

end Cert.ReferenceIdeal.Sums

end
-- ==== Proof.Equation.lean ====
/-
The equation: what every device ends with is what the reference computes from the whole arrays.

Device `c` holds rows `512 * (c / 16)` to `512 * (c / 16) + 511` of the whole arrays, and its partner the other half,
so the two partial sums together are the sums over all 1024 rows.
-/
module

public import proofs.«01_k».proof.Proof.Values
public import proofs.«01_k».proof.Proof.Reference
public import Idealize.ShloMosaic.Lib.Layout

@[expose] public section

noncomputable section

namespace Cert.KernelIdeal.Exchange

open Cert.KernelIdeal Cert.KernelIdeal.Gen
open Idealize.ShloMosaic

/-- The half of the rows that a device holds: 0 or 1. -/
def half (c : Dev nD) : Fin 2 := ⟨c.val / 16, by have := c.isLt; simp only [nD] at this; omega⟩

/-- The partner holds the other half. -/
theorem half_peer (c : Dev nD) : half (peer c) = 1 - half c := by revert c; decide

/-- Half `b` of an array of 1024 rows. -/
def halfOf (b : Fin 2) (A : FVec Ideal ⟨2, ![1024, 512]⟩ .f32) : FVec Ideal S512x512 .f32 :=
  fun i => A (ix2 (⟨512 * b.val + (i 0).val, by have := (i 0).isLt; simp at this; omega⟩ : Fin 1024) (i 1))

/-- A device's block of a whole array is its half of the rows. -/
theorem block_eq (c : Dev nD) (A : FVec Ideal ⟨2, ![1024, 512]⟩ .f32) :
    Layout.blockN ⟨2, ![512, 512]⟩ ⟨2, ![1024, 512]⟩ (Layout.meshBlock [2, 4, 4] ![[0], []] c) A = halfOf (half c) A := by
  have h0 : ∀ c : Dev nD, ((Layout.meshBlock [2, 4, 4] ![[0], []] c) 0).val = (half c).val := by decide
  have h1 : ∀ c : Dev nD, ((Layout.meshBlock [2, 4, 4] ![[0], []] c) 1).val = 0 := by decide
  funext i
  refine congrArg A (Shape.idx_ext₂ ?_ ?_)
  · show ((Layout.meshBlock [2, 4, 4] ![[0], []] c) 0).val * 512 + (i 0).val = 512 * (half c).val + (i 0).val
    rw [h0, Nat.mul_comm]
  · show ((Layout.meshBlock [2, 4, 4] ![[0], []] c) 1).val * 512 + (i 1).val = (i 1).val
    rw [h1, Nat.zero_mul, Nat.zero_add]

/-- A sum over all rows is the sum over one half and the sum over the other, whichever comes first. -/
theorem sum_halves (f : Fin 1024 → EReal) (b : Fin 2) :
    (∑ r : Fin 512, f ⟨512 * b.val + r.val, by omega⟩) + (∑ r : Fin 512, f ⟨512 * (1 - b).val + r.val, by omega⟩)
      = ∑ r : Fin 1024, f r := by
  have h : ∑ r : Fin 1024, f r
      = (∑ r : Fin 512, f ⟨512 * (0 : Fin 2).val + r.val, by simp; omega⟩) + ∑ r : Fin 512, f ⟨512 * (1 : Fin 2).val + r.val, by simp; omega⟩ := by
    refine (Fin.sum_univ_add (a := 512) (b := 512) f).trans (congrArg₂ (· + ·) ?_ ?_)
    all_goals
      refine Finset.sum_congr rfl fun r _ => congrArg f (Fin.ext ?_)
      simp [Fin.castAdd, Fin.natAdd]
  rw [h]
  match b with
  | 0 => rfl
  | 1 => exact add_comm _ _

/-- The first row's sums over a half and over the other are the sum over the whole. -/
theorem gSum_halves (b : Fin 2) (X D : FVec Ideal ⟨2, ![1024, 512]⟩ .f32) (l : Fin 512) :
    gSum (halfOf b X) (halfOf b D) l + gSum (halfOf (1 - b) X) (halfOf (1 - b) D) l = gSum X D l :=
  sum_halves (fun r => D (ix2 r l) * normed (fun k => X (ix2 r k)) l) b

/-- The second row's sums over a half and over the other are the sum over the whole. -/
theorem bSum_halves (b : Fin 2) (D : FVec Ideal ⟨2, ![1024, 512]⟩ .f32) (l : Fin 512) :
    bSum (halfOf b D) l + bSum (halfOf (1 - b) D) l = bSum D l :=
  sum_halves (fun r => D (ix2 r l)) b

/-- Where every device holds its block of the whole arrays `X` and `D`, every device ends with the reference's result. -/
theorem outVal_eq (m : (ℓ : Loc nD τ sig) → Buf (Elt Ideal) ℓ) (X D : FVec Ideal ⟨2, ![1024, 512]⟩ .f32)
    (hx : ∀ c, xAt m c = Layout.blockN ⟨2, ![512, 512]⟩ ⟨2, ![1024, 512]⟩ (Layout.meshBlock [2, 4, 4] ![[0], []] c) X)
    (hd : ∀ c, dyAt m c = Layout.blockN ⟨2, ![512, 512]⟩ ⟨2, ![1024, 512]⟩ (Layout.meshBlock [2, 4, 4] ![[0], []] c) D)
    (c : Dev nD) : outVal m c = Cert.ReferenceIdeal.Sums.refOut X D := by
  have ex : ∀ c, xAt m c = halfOf (half c) X := fun c => (hx c).trans (block_eq c X)
  have ed : ∀ c, dyAt m c = halfOf (half c) D := fun c => (hd c).trans (block_eq c D)
  have h0 : ∀ l : Fin 512, outVal m c (ix2 (0 : Fin 2) l) = Cert.ReferenceIdeal.Sums.refOut X D (ix2 (0 : Fin 2) l) := fun l => by
    refine (outVal_zero m c l).trans (Eq.trans ?_ (Cert.ReferenceIdeal.Sums.refOut_zero X D l).symm)
    rw [ex c, ed c, ex (peer c), ed (peer c), half_peer]
    exact gSum_halves (half c) X D l
  have h1 : ∀ l : Fin 512, outVal m c (ix2 (1 : Fin 2) l) = Cert.ReferenceIdeal.Sums.refOut X D (ix2 (1 : Fin 2) l) := fun l => by
    refine (outVal_one m c l).trans (Eq.trans ?_ (Cert.ReferenceIdeal.Sums.refOut_one X D l).symm)
    rw [ed c, ed (peer c), half_peer]
    exact bSum_halves (half c) D l
  have h : ∀ (a : Fin 2) (l : Fin 512), outVal m c (ix2 a l) = Cert.ReferenceIdeal.Sums.refOut X D (ix2 a l) := fun a l =>
    match a with
    | 0 => h0 l
    | 1 => h1 l
  funext i
  have hi : i = ix2 (i 0) (i 1) := ValueIdx.eq_ix2 i
  rw [hi]
  exact h (i 0) (i 1)

end Cert.KernelIdeal.Exchange

end
-- ==== Proof.lean ====
/-
The claims about the kernel and its reference.

The kernel's run on the mesh is in Proof/Run.lean (its schedule in Protocol, the pieces its copies move in Chunks, one
device's body in Body); what a device computes in Proof/Values.lean, what the reference computes in
Proof/Reference.lean, and the equation between them in Proof/Equation.lean. Here they are put together.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Run
public import proofs.«01_k».proof.Proof.Equation
public import Idealize.ShloMosaic.Adequacy
public import Idealize.ShloMosaic.Init

@[expose] public section

noncomputable section

namespace Cert.Proof

open Idealize.ShloMosaic Idealize.SL.Sem Cert.Kernel

attribute [local instance] Cert.Kernel.Gen.facts Cert.KernelIdeal.Gen.facts Cert.ReferenceIdeal.Gen.facts

/-- The kernel functions of `Kernel` and of `KernelIdeal` are the same. -/
theorem kernels_same : Cert.Kernel.defs₀ (F := Bits) = Cert.KernelIdeal.defs₀ (F := Bits) :=
  congrArg (Defs.onTc (nD := Cert.KernelIdeal.nD) (τ := Cert.KernelIdeal.τ) (sig := Cert.KernelIdeal.sig) (Val := Elt Bits)
      (Λ := Cert.KernelIdeal.Λ₀)) (by
    funext l a
    match l, a with
    | 0, (t, s) => rfl)

/-- The two programs have the same body table. -/
theorem tables_same : Cert.Kernel.defs (F := Bits) = Cert.KernelIdeal.defs (F := Bits) :=
  congrArg (Pipeline.defs (Cert.KernelIdeal.pcfgs (F := Bits))) kernels_same

/-- `Kernel` keeps its arguments and ends with every counter at zero. `KernelIdeal` has the same text, and its run is proved
    over any float values, so this is that run read at `Bits`. -/
theorem frame_kernel : Cert.quiescent_Kernel := by
  intro m ρ _
  have h : θ_run (Cert.KernelIdeal.defs (F := Bits)) (onTc (τ := Cert.KernelIdeal.τ) (Cert.KernelIdeal.main (F := Bits))) ⟨m, fun _ => 0, ρ⟩
      (fun r => (∀ c : Dev Cert.KernelIdeal.nD,
        r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
        ∧ r.2.sem = fun _ => 0) :=
    (θ_run Cert.KernelIdeal.defs _ _).mono (fun _ h => ⟨fun c => (h.1 c).2, h.2⟩) (Cert.KernelIdeal.Exchange.run_main (F := Bits) m ρ)
  rw [← tables_same] at h
  exact h

/-- `KernelIdeal` keeps its arguments and ends with every counter at zero. -/
theorem frame_kernelIdeal : Cert.quiescent_KernelIdeal := fun m ρ _ =>
  (θ_run Cert.KernelIdeal.defs _ _).mono (fun _ h => ⟨fun c => (h.1 c).2, h.2⟩) (Cert.KernelIdeal.Exchange.run_main (F := Ideal) m ρ)

/-- The reference keeps its arguments, and declares no semaphore. -/
theorem frame_referenceIdeal : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- The ideal pass rewrote nothing in the kernel. -/
theorem preserves : Cert.preserves_Kernel_KernelIdeal := trivial

/-- Over the extended reals, from arguments of which each device holds its part, every device ends with the reference's
    result: both rows are the sums over all 1024 rows. -/
theorem algebraic : Cert.algebraic_KernelIdeal_ReferenceIdeal := by
  intro m ρ m' ρ' _ hag
  refine ⟨Cert.ReferenceIdeal.Sums.refOut
      (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1)), ?_, ?_⟩
  · exact (θ_run Cert.KernelIdeal.defs _ _).mono
      (fun _ h c => ⟨(h.1 c).1.trans (Cert.KernelIdeal.Exchange.outVal_eq m _ _ (fun c => (hag c).1) (fun c => (hag c).2.1) c), (h.1 c).2⟩)
      (Cert.KernelIdeal.Exchange.run_main (F := Ideal) m ρ)
  · exact (θ_run Cert.ReferenceIdeal.defs _ _).mono
      (fun _ h => ⟨(h 0).1.trans (Cert.ReferenceIdeal.Sums.term_eq _ _), (h 0).2⟩)
      (Cert.ReferenceIdeal.Value.run (F := Ideal) m' ρ')

/-- The claims together, after the witnesses of the facts the programs state. -/
theorem claim : Cert.Claim :=
  ⟨Cert.Kernel.Gen.facts, Cert.KernelIdeal.Gen.facts, Cert.ReferenceIdeal.Gen.facts,
    frame_kernel, frame_kernelIdeal, frame_referenceIdeal, preserves, algebraic⟩

end Cert.Proof

end
